-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S8x2x128x256 : Shape := ⟨4, ![8, 2, 128, 256]⟩
abbrev S7 : Shape := ⟨1, ![7]⟩
abbrev S8 : Shape := ⟨1, ![8]⟩
abbrev S_ : Shape := ⟨0, ![]⟩
abbrev S128x128 : Shape := ⟨2, ![128, 128]⟩
abbrev S512x256 : Shape := ⟨2, ![512, 256]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S1x1x128x64 : Shape := ⟨4, ![1, 1, 128, 64]⟩
abbrev S1 : Shape := ⟨1, ![1]⟩
abbrev S1x2x128x256 : Shape := ⟨4, ![1, 2, 128, 256]⟩
abbrev S2x128x256 : Shape := ⟨3, ![2, 128, 256]⟩
abbrev S256x512 : Shape := ⟨2, ![256, 512]⟩
abbrev S1x1x128x256 : Shape := ⟨4, ![1, 1, 128, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x4x64, .f32⟩
  | .hbm, ⟨3, _⟩ => ⟨S2x128x4x64, .f32⟩
  | .hbm, ⟨4, _⟩ => ⟨S2048x512, .f32⟩
  | .hbm, ⟨5, _⟩ => ⟨S2x128x512, .f32⟩
  | .local _ .vmem, ⟨0, _⟩ => ⟨S2x128x512, .f32⟩
  | .local _ .vmem, ⟨1, _⟩ => ⟨S512x2048, .f32⟩
  | .local _ .vmem, ⟨2, _⟩ => ⟨S2x128x4x64, .f32⟩
  | .local _ .vmem, ⟨3, _⟩ => ⟨S2x128x4x64, .f32⟩
  | .local _ .vmem, ⟨4, _⟩ => ⟨S2048x512, .f32⟩
  | .local _ .vmem, ⟨5, _⟩ => ⟨S2x128x512, .f32⟩
  | .local _ .vmem, ⟨6, _⟩ => ⟨S8x2x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v106 : BitVec 32 := Scalar.muli v2 c256_i32
  let v107 : Index := Scalar.indexCast v106
  ![0, v107.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v134 : Index := Scalar.indexCast v2
  let c0_67 : Index := 0#32
  let c0_68 : Index := 0#32
  let c0_69 : Index := 0#32
  ![v134.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v159 : Index := Scalar.indexCast v2
  let c0_83 : Index := 0#32
  let c0_84 : Index := 0#32
  let c64 : Index := 64#32
  ![v159.toNat, 0, 0, 64]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v184 : Index := Scalar.indexCast v2
  let c0_98 : Index := 0#32
  let c0_99 : Index := 0#32
  let c128 : Index := 128#32
  ![v184.toNat, 0, 0, 128]
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v209 : Index := Scalar.indexCast v2
  let c0_113 : Index := 0#32
  let c0_114 : Index := 0#32
  let c192 : Index := 192#32
  ![v209.toNat, 0, 0, 192]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v237 : Index := Scalar.indexCast v2
  let c1_133 : Index := 1#32
  let c0_134 : Index := 0#32
  let c0_135 : Index := 0#32
  ![v237.toNat, 1, 0, 0]
def k0_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v262 : Index := Scalar.indexCast v2
  let c1_150 : Index := 1#32
  let c0_151 : Index := 0#32
  let c64_152 : Index := 64#32
  ![v262.toNat, 1, 0, 64]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v287 : Index := Scalar.indexCast v2
  let c1_167 : Index := 1#32
  let c0_168 : Index := 0#32
  let c128_169 : Index := 128#32
  ![v287.toNat, 1, 0, 128]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v312 : Index := Scalar.indexCast v2
  let c1_184 : Index := 1#32
  let c0_185 : Index := 0#32
  let c192_186 : Index := 192#32
  ![v312.toNat, 1, 0, 192]
def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_192 : BitVec 32 := 0#32
  let c0_i32_193 : BitVec 32 := 0#32
  let c0_i32_194 : BitVec 32 := 0#32
  ![v2.toNat, 0, 0, 0]
def k0_dev8 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v316 : BitVec 32 := Scalar.addi v2 c1_i32_187
  let c8_i32_188 : BitVec 32 := 8#32
  let v317 : BitVec 32 := Scalar.remsi v316 c8_i32_188
  let c1_i32_190 : BitVec 32 := 1#32
  let v318 : BitVec 32 := Scalar.muli v317 c1_i32_190
  let v319 : BitVec 32 := Scalar.addi c0_i32_191 v318
  v319.toNat
def k0_dev9 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_198 : BitVec 32 := 2#32
  let v328 : BitVec 32 := Scalar.addi v2 c2_i32_198
  let c8_i32_199 : BitVec 32 := 8#32
  let v329 : BitVec 32 := Scalar.remsi v328 c8_i32_199
  let c1_i32_201 : BitVec 32 := 1#32
  let v330 : BitVec 32 := Scalar.muli v329 c1_i32_201
  let v331 : BitVec 32 := Scalar.addi c0_i32_202 v330
  v331.toNat
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_209 : BitVec 32 := 3#32
  let v340 : BitVec 32 := Scalar.addi v2 c3_i32_209
  let c8_i32_210 : BitVec 32 := 8#32
  let v341 : BitVec 32 := Scalar.remsi v340 c8_i32_210
  let c1_i32_212 : BitVec 32 := 1#32
  let v342 : BitVec 32 := Scalar.muli v341 c1_i32_212
  let v343 : BitVec 32 := Scalar.addi c0_i32_213 v342
  v343.toNat
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_220 : BitVec 32 := 4#32
  let v352 : BitVec 32 := Scalar.addi v2 c4_i32_220
  let c8_i32_221 : BitVec 32 := 8#32
  let v353 : BitVec 32 := Scalar.remsi v352 c8_i32_221
  let c1_i32_223 : BitVec 32 := 1#32
  let v354 : BitVec 32 := Scalar.muli v353 c1_i32_223
  let v355 : BitVec 32 := Scalar.addi c0_i32_224 v354
  v355.toNat
def k0_dev12 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_231 : BitVec 32 := 5#32
  let v364 : BitVec 32 := Scalar.addi v2 c5_i32_231
  let c8_i32_232 : BitVec 32 := 8#32
  let v365 : BitVec 32 := Scalar.remsi v364 c8_i32_232
  let c1_i32_234 : BitVec 32 := 1#32
  let v366 : BitVec 32 := Scalar.muli v365 c1_i32_234
  let v367 : BitVec 32 := Scalar.addi c0_i32_235 v366
  v367.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_242 : BitVec 32 := 6#32
  let v376 : BitVec 32 := Scalar.addi v2 c6_i32_242
  let c8_i32_243 : BitVec 32 := 8#32
  let v377 : BitVec 32 := Scalar.remsi v376 c8_i32_243
  let c1_i32_245 : BitVec 32 := 1#32
  let v378 : BitVec 32 := Scalar.muli v377 c1_i32_245
  let v379 : BitVec 32 := Scalar.addi c0_i32_246 v378
  v379.toNat
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_253 : BitVec 32 := 7#32
  let v388 : BitVec 32 := Scalar.addi v2 c7_i32_253
  let c8_i32_254 : BitVec 32 := 8#32
  let v389 : BitVec 32 := Scalar.remsi v388 c8_i32_254
  let c1_i32_256 : BitVec 32 := 1#32
  let v390 : BitVec 32 := Scalar.muli v389 c1_i32_256
  let v391 : BitVec 32 := Scalar.addi c0_i32_257 v390
  v391.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v106 : BitVec 32 := Scalar.muli v2 c256_i32
  let v400 : Index := Scalar.indexCast v106
  let c0_264 : Index := 0#32
  ![v400.toNat, 0]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v403 : Index := Scalar.indexCast v2
  let c0_265 : Index := 0#32
  let c0_266 : Index := 0#32
  let c0_267 : Index := 0#32
  ![v403.toNat, 0, 0, 0]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v411 : Index := Scalar.indexCast v2
  let c1_272 : Index := 1#32
  let c0_273 : Index := 0#32
  let c0_274 : Index := 0#32
  ![v411.toNat, 1, 0, 0]
def k0_off15 (d0 : Dev nD) (c1_i32_279 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.addi v2 c1_i32_279
  let c8_i32_280 : BitVec 32 := 8#32
  let v420 : BitVec 32 := Scalar.remsi v419 c8_i32_280
  ![v420.toNat]
def k0_off16 (d0 : Dev nD) (c1_i32_279 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.addi v2 c1_i32_279
  let c8_i32_280 : BitVec 32 := 8#32
  let v420 : BitVec 32 := Scalar.remsi v419 c8_i32_280
  let c0_i32_284 : BitVec 32 := 0#32
  let c0_i32_285 : BitVec 32 := 0#32
  let c0_i32_286 : BitVec 32 := 0#32
  ![v420.toNat, 0, 0, 0]
def k0_off17 (d0 : Dev nD) (c1_i32_279 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.addi v2 c1_i32_279
  let c8_i32_280 : BitVec 32 := 8#32
  let v420 : BitVec 32 := Scalar.remsi v419 c8_i32_280
  let c256_i32_290 : BitVec 32 := 256#32
  let v429 : BitVec 32 := Scalar.muli v420 c256_i32_290
  let v430 : Index := Scalar.indexCast v429
  let c0_291 : Index := 0#32
  ![v430.toNat, 0]
def k0_off18 (d0 : Dev nD) (c1_i32_279 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.addi v2 c1_i32_279
  let c8_i32_280 : BitVec 32 := 8#32
  let v420 : BitVec 32 := Scalar.remsi v419 c8_i32_280
  let v433 : Index := Scalar.indexCast v420
  let c0_292 : Index := 0#32
  let c0_293 : Index := 0#32
  let c0_294 : Index := 0#32
  ![v433.toNat, 0, 0, 0]
def k0_off19 (d0 : Dev nD) (c1_i32_279 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v419 : BitVec 32 := Scalar.addi v2 c1_i32_279
  let c8_i32_280 : BitVec 32 := 8#32
  let v420 : BitVec 32 := Scalar.remsi v419 c8_i32_280
  let v444 : Index := Scalar.indexCast v420
  let c1_302 : Index := 1#32
  let c0_303 : Index := 0#32
  let c0_304 : Index := 0#32
  ![v444.toNat, 1, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S128x128, .i1⟩
  | .hbm, ⟨54, _⟩ => ⟨S128x128, .i1⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i1⟩
  | .hbm, ⟨83, _⟩ => ⟨S128x128, .i1⟩
  | .hbm, ⟨84, _⟩ => ⟨S2x32x128x128, .f32⟩
  | .hbm, ⟨85, _⟩ => ⟨S_, .f32⟩
  | .hbm, ⟨86, _⟩ => ⟨S2x32x128x128, .f32⟩
  | .hbm, ⟨87, _⟩ => ⟨S2x32x128x128, .f32⟩
  | .hbm, ⟨88, _⟩ => ⟨S1x1x128x128, .i1⟩
  | .hbm, ⟨89, _⟩ => ⟨S_, .f32⟩
  | .hbm, ⟨90, _⟩ => ⟨S_, .f32⟩
  | .hbm, ⟨91, _⟩ => ⟨S2x32x128x128, .i1⟩
  | .hbm, ⟨92, _⟩ => ⟨S2x32x128x128, .f32⟩
  | .hbm, ⟨93, _⟩ => ⟨S2x32x128x128, .f32⟩
  | .hbm, ⟨94, _⟩ => ⟨S_, .f32⟩
  | .hbm, ⟨95, _⟩ => ⟨S2x32x128, .f32⟩
  | .hbm, ⟨96, _⟩ => ⟨S2x32x128x1, .f32⟩
  | .hbm, ⟨97, _⟩ => ⟨S2x32x128x128, .f32⟩
  | .hbm, ⟨98, _⟩ => ⟨S2x32x128x128, .f32⟩
  | .hbm, ⟨99, _⟩ => ⟨S2x32x128x128, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x32x128, .f32⟩
  | .hbm, ⟨105, _⟩ => ⟨S2x32x128x1, .f32⟩
  | .hbm, ⟨106, _⟩ => ⟨S_, .f32⟩
  | .hbm, ⟨107, _⟩ => ⟨S_, .f32⟩
  | .hbm, ⟨108, _⟩ => ⟨S2x32x128x1, .i1⟩
  | .hbm, ⟨109, _⟩ => ⟨S2x32x128x1, .f32⟩
  | .hbm, ⟨110, _⟩ => ⟨S2x32x128x1, .f32⟩
  | .hbm, ⟨111, _⟩ => ⟨S2x32x128x128, .f32⟩
  | .hbm, ⟨112, _⟩ => ⟨S2x32x128x128, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x32x128x128, .i1⟩
  | .hbm, ⟨117, _⟩ => ⟨S2x32x128x128, .f32⟩
  | .hbm, ⟨118, _⟩ => ⟨S2x32x128x128, .f32⟩
  | .hbm, ⟨119, _⟩ => ⟨S2x32x64x128, .f32⟩
  | .hbm, ⟨120, _⟩ => ⟨S2x128x32x64, .f32⟩
  | .hbm, ⟨121, _⟩ => ⟨S2x128x2048, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Common.lean ====
/-
# The gathered attention kernel: devices, cells, contents and the signalling protocol

Eight devices. Each computes the attention output of its own four heads, places it in row `c` of an
eight-row gather buffer, copies that row to the same row of the seven other devices, and adds up the eight
blocks of the output projection.

The protocol, stated as rounds (every semaphore cell has at most one round, round 0; a duty is named by the
device that pays it):

* the barrier cell of device `c` has seven duties of one unit, one per other device `d`; paying it, `d` hands
  `c` row `c` of `d`'s gather buffer (at any contents) and the fact that `d`'s receive cell for row `c` is at
  round 0. After its wait for 7 units, `c` owns row `c` of every other device's gather buffer;
* the receive cell of device `c` for row `o ≠ c` has one duty, paid by `o`: row `o` of `c`'s gather buffer,
  holding row `o` of the gathered array. The receive cell for the own row has no duty and is never used;
* the send cell `j` of device `c` has one duty, paid by `c` itself when its copy to its `j`-th peer has been
  read: the share of `c`'s own row lent to that copy.

Levels: staging and send cells 0, barrier cells 1, receive cells 2. A device owes, at launch, one unit to every
peer's barrier cell and one row's credit to its receive cell of every peer; at its barrier wait it owes the
receive credits only, and at its later waits nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Idealize.ShloMosaic.Pipeline (Dat Cfg Window BodyObligation cellOf)

variable {F : FTy → Type} [FloatOps F]

/-! ## The resource algebra: the pipeline library's copy, and the kernel's own with duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Peers -/

/-- Device `c`'s peer number `j`: the device `j + 1` places after it. -/
def peer (c : Dev nD) (j : ℕ) : Dev nD := ⟨(c.val + j + 1) % 8, Nat.mod_lt _ (by decide)⟩

theorem peer_ne (c : Dev nD) (j : Fin 7) : peer c j ≠ c := by revert c j; decide
theorem peer_inj (c : Dev nD) : Function.Injective fun j : Fin 7 => peer c j := by revert c; decide
/-- Every other device is a peer. -/
theorem peer_univ (c : Dev nD) : (Finset.univ.erase c : Finset (Dev nD)) = Finset.univ.map ⟨fun j : Fin 7 => peer c j, peer_inj c⟩ := by
  revert c; decide

/-- Seen from its peer number `j`, device `c` is peer number `6 - j`. -/
def around (j : Fin 7) : Dev nD ≃ Dev nD where
  toFun c := peer c j
  invFun c := peer c (6 - j.val)
  left_inv c := by revert c j; decide
  right_inv c := by revert c j; decide

theorem peer_back (c : Dev nD) (j : Fin 7) : peer (peer c j) (6 - j.val) = c := by revert c j; decide

/-! ## The memrefs and cells -/

abbrev xM : Memref sig .tc .vmem S2x128x512 .f32 := Memref.whole cc0_stg0_0
abbrev wqM : Memref sig .tc .vmem S512x2048 .f32 := Memref.whole cc0_stg1_0
abbrev kM : Memref sig .tc .vmem S2x128x4x64 .f32 := Memref.whole cc0_stg2_0
abbrev vM : Memref sig .tc .vmem S2x128x4x64 .f32 := Memref.whole cc0_stg3_0
abbrev woM : Memref sig .tc .vmem S2048x512 .f32 := Memref.whole cc0_stg4_0
abbrev oM : Memref sig .tc .vmem S2x128x512 .f32 := Memref.whole cc0_stg5_0
abbrev cM : Memref sig .tc .vmem S8x2x128x256 .bf16 := Memref.whole cc0_scratch0

/-- The barrier semaphore (not scoped to the launch). -/
abbrev barS : Sem sig := (SemArray.scalar (sig.barrier 0 rfl) : Sems sig S_).sem
/-- The send semaphore of the copy to peer `j`; the receive semaphore of row `o`. -/
abbrev sendQ (j : Fin 7) : DmaSem sig := ⟨j.val + 6, by have := j.isLt; show j.val + 6 < 21; omega⟩
abbrev recvQ (o : Dev nD) : DmaSem sig := ⟨o.val + 13, by have := o.isLt; show o.val + 13 < 21; have : nD = 8 := rfl; omega⟩

abbrev barCell (c : Dev nD) : GSem nD τ sig := ((c : Thread nD τ), .reg barS)
abbrev sendCell (c : Dev nD) (j : Fin 7) : GSem nD τ sig := ((c : Thread nD τ), .dma (sendQ j))
abbrev recvCell (c o : Dev nD) : GSem nD τ sig := ((c : Thread nD τ), .dma (recvQ o))

/-- The kernel's own (scoped) semaphores: seven send, eight receive; -/
abbrev osem : Fin 15 → SemLoc sig := fun k => .dma ⟨k.val + 6, by have := k.isLt; show k.val + 6 < 21; omega⟩
/-- all sixteen of them, the barrier first. -/
abbrev csem : Fin 16 → SemLoc sig
  | ⟨0, _⟩ => .reg barS
  | ⟨k + 1, h⟩ => .dma ⟨k + 6, by show k + 6 < 21; omega⟩
abbrev kcell (ck : Dev nD × Fin 16) : GSem nD τ sig := ((ck.1 : Thread nD τ), csem ck.2)

abbrev sendIx (j : Fin 7) : Fin 16 := ⟨j.val + 1, by omega⟩
abbrev recvIx (o : Dev nD) : Fin 16 := ⟨o.val + 7 + 1, by have := o.isLt; have : nD = 8 := rfl; omega⟩

theorem kcell_bar (c : Dev nD) : kcell (c, 0) = barCell c := rfl
theorem kcell_send (c : Dev nD) (j : Fin 7) : kcell (c, sendIx j) = sendCell c j := rfl
theorem kcell_recv (c o : Dev nD) : kcell (c, recvIx o) = recvCell c o := rfl

/-! ## The gather buffer's rows -/

theorem slot_inb (o : Dev nD) : ∀ a, (![o.val, 0, 0, 0] : Fin 4 → ℕ) a + S1x2x128x256.size a ≤ S8x2x128x256.size a := by
  revert o; decide

/-- Row `o` of the gather buffer, as the kernel's copies name it. -/
abbrev slotM (o : Dev nD) : Memref sig .tc .vmem S2x128x256 .bf16 :=
  (cM.slice (Rect.unit (s := S8x2x128x256) ![o.val, 0, 0, 0] S1x2x128x256.size (slot_inb o)) (fun _ => rfl)).squeeze S2x128x256 squeezes_S1x2x128x256_S2x128x256

abbrev CBuf (F : FTy → Type) [FloatOps F] : Type := (cc0_scratch0 : Ref sig .tc).ty.Contents (Elt F)

/-- The elements of row `o`. -/
def slotSet (o : Dev nD) : Finset (S8x2x128x256.Idx) := Finset.univ.filter fun i => (i 0).val = o.val

theorem mem_slotSet {o : Dev nD} {i : S8x2x128x256.Idx} : i ∈ slotSet o ↔ (i 0).val = o.val := by simp [slotSet]

theorem slotM_set (o : Dev nD) : (slotM o).view.set = slotSet o := by
  rw [Memref.set_view_squeeze]
  show ((View.whole cc0_scratch0).slice _).set = _
  rw [View.set_slice_whole]
  ext i
  rw [Rect.mem_set_unit, mem_slotSet]
  constructor
  · intro h
    have := h 0
    change o.val ≤ (i 0).val ∧ (i 0).val < o.val + 1 at this
    omega
  · intro h a
    have h1 := (i 1).isLt
    have h2 := (i 2).isLt
    have h3 := (i 3).isLt
    change (i 1).val < 2 at h1
    change (i 2).val < 128 at h2
    change (i 3).val < 256 at h3
    fin_cases a
    · change o.val ≤ (i 0).val ∧ (i 0).val < o.val + 1; omega
    · change 0 ≤ (i 1).val ∧ (i 1).val < 0 + 2; omega
    · change 0 ≤ (i 2).val ∧ (i 2).val < 0 + 128; omega
    · change 0 ≤ (i 3).val ∧ (i 3).val < 0 + 256; omega

theorem slotSet_disjoint (o o' : Dev nD) (h : o ≠ o') : Disjoint (slotSet o) (slotSet o') := by
  rw [Finset.disjoint_left]
  intro i hi hi'
  rw [mem_slotSet] at hi hi'
  exact h (Fin.ext (hi.symm.trans hi'))

theorem slotSet_cover : (Finset.univ : Finset (Dev nD)).biUnion slotSet = Finset.univ := by
  ext i
  simp only [Finset.mem_biUnion, Finset.mem_univ, true_and, iff_true]
  exact ⟨⟨(i 0).val, (i 0).isLt⟩, mem_slotSet.mpr rfl⟩

/-- Row `o` of device `d`'s gather buffer, at share `q`, holding the row of `f`. -/
def slotPts (d o : Dev nD) (q : PosShare TreeShare) (f : CBuf F) : sProp 𝕄 :=
  cM.view.loc (d : Thread nD τ) ↦[slotSet o]{q} f

instance slotPts_storable (d o : Dev nD) (q) (f : CBuf F) : BI.Storable (upEmb : UEmb _ 𝕄) (slotPts d o q f) := by
  unfold slotPts; infer_instance

/-- The credit of one row. -/
abbrev N : ℕ := (slotM 0).view.dmaCredit
theorem N_pos : 0 < N := View.dmaCredit_pos _ (by decide)

/-! ## Contents: what the devices hold after staging, the gathered array, the partial outputs -/

abbrev XBuf (F : FTy → Type) [FloatOps F] : Type := (cc0_stg0_0 : Ref sig .tc).ty.Contents (Elt F)

def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def kstg (c : Dev nD) : (cc0_stg2_0 : Ref sig .tc).ty.Contents (Elt F) :=
  (win0_2.blk (0 : Fin 1)).view.read (Elt F) (m ((c : Thread nD τ).loc main_arg2))
def vstg (c : Dev nD) : (cc0_stg3_0 : Ref sig .tc).ty.Contents (Elt F) :=
  (win0_3.blk (0 : Fin 1)).view.read (Elt F) (m ((c : Thread nD τ).loc main_arg3))
def wostg (c : Dev nD) : (cc0_stg4_0 : Ref sig .tc).ty.Contents (Elt F) :=
  (win0_4.blk (0 : Fin 1)).view.read (Elt F) (m ((c : Thread nD τ).loc main_arg4))

/-- The block mask: which key positions a query position attends to. -/
def maskV : IVec S128x128 1 :=
  k0_pay4 k0_pay1 (iota .tc S128x128 32 [1] iota_S128x128_d1_w32) 64#32 k0_pay2 k0_pay3

theorem rx_inb (b : Fin 2) : ∀ a, (![b.val, 0, 0] : Fin 3 → ℕ) a + S1x128x512.size a ≤ S2x128x512.size a := by revert b; decide
/-- Batch `b` of the input block or of the output block. -/
abbrev rx (b : Fin 2) : Rect S2x128x512 := Rect.unit (s := S2x128x512) ![b.val, 0, 0] S1x128x512.size (rx_inb b)

theorem rk_inb (b : Fin 2) (h : Fin 4) : ∀ a, (![b.val, 0, h.val, 0] : Fin 4 → ℕ) a + S1x128x1x64.size a ≤ S2x128x4x64.size a := by
  revert b h; decide
/-- Batch `b`, head `h` of the key or value block. -/
abbrev rk (b : Fin 2) (h : Fin 4) : Rect S2x128x4x64 := Rect.unit (s := S2x128x4x64) ![b.val, 0, h.val, 0] S1x128x1x64.size (rk_inb b h)

theorem rwq_inb (c : Dev nD) : ∀ a, (![0, 256 * c.val] : Fin 2 → ℕ) a + S512x256.size a ≤ S512x2048.size a := by revert c; decide
/-- The 256 columns of the query projection device `c` uses. -/
abbrev rwq (c : Dev nD) : Rect S512x2048 := Rect.unit (s := S512x2048) ![0, 256 * c.val] S512x256.size (rwq_inb c)

theorem rwo_inb (o : Dev nD) : ∀ a, (![256 * o.val, 0] : Fin 2 → ℕ) a + S256x512.size a ≤ S2048x512.size a := by revert o; decide
/-- The 256 rows of the output projection that multiply row `o` of the gathered array. -/
abbrev rwo (o : Dev nD) : Rect S2048x512 := Rect.unit (s := S2048x512) ![256 * o.val, 0] S256x512.size (rwo_inb o)

theorem rc_inb (o : Dev nD) (b : Fin 2) : ∀ a, (![o.val, b.val, 0, 0] : Fin 4 → ℕ) a + S1x1x128x256.size a ≤ S8x2x128x256.size a := by
  revert o b; decide
/-- Row `o`, batch `b` of the gather buffer. -/
abbrev rc (o : Dev nD) (b : Fin 2) : Rect S8x2x128x256 := Rect.unit (s := S8x2x128x256) ![o.val, b.val, 0, 0] S1x1x128x256.size (rc_inb o b)

theorem rh_inb (o : Dev nD) (b : Fin 2) (h : Fin 4) :
    ∀ a, (![o.val, b.val, 0, 64 * h.val] : Fin 4 → ℕ) a + S1x1x128x64.size a ≤ S8x2x128x256.size a := by
  revert o b h; decide
/-- Row `o`, batch `b`, head `h` of the gather buffer. -/
abbrev rh (o : Dev nD) (b : Fin 2) (h : Fin 4) : Rect S8x2x128x256 :=
  Rect.unit (s := S8x2x128x256) ![o.val, b.val, 0, 64 * h.val] S1x1x128x64.size (rh_inb o b h)

/-- The query columns of head `h` out of a device's four heads. -/
def qHead (q : FVec F S128x256 .f32) : Fin 4 → FVec F S128x64 .f32
  | 0 => extractStridedSlice S128x64 ![0, 0] q slices_S128x256_o0_0_S128x64
  | 1 => extractStridedSlice S128x64 ![0, 64] q slices_S128x256_o0_64_S128x64
  | 2 => extractStridedSlice S128x64 ![0, 128] q slices_S128x256_o0_128_S128x64
  | 3 => extractStridedSlice S128x64 ![0, 192] q slices_S128x256_o0_192_S128x64

/-- Masked softmax attention of one head of one batch: queries `q`, keys `k`, values `v`. -/
def headOut (q : FVec F S128x64 .f32) (k v : Vec F S1x128x1x64 .f32) : FVec F S1x1x128x64 .bf16 :=
  k0_pay10 maskV q (k0_pay9 k) v

/-- Device `o`'s query block of batch `b`. -/
def qBlk (o : Dev nD) (b : Fin 2) : FVec F S128x256 .f32 :=
  k0_pay6 (wqM.view.readAt (Elt F) (rwq o).toLoadRect (wqstg m o)) (xM.view.readAt (Elt F) (rx b).toLoadRect (xstg m o))

/-- Head `h` of batch `b` on device `o`. -/
def headAt (o : Dev nD) (b : Fin 2) (h : Fin 4) : FVec F S1x1x128x64 .bf16 :=
  headOut (qHead (qBlk m o b) h) (kM.view.readAt (Elt F) (rk b h).toLoadRect (kstg m o)) (vM.view.readAt (Elt F) (rk b h).toLoadRect (vstg m o))

/-- The gathered array: row `o`, batch `b`, position `r`, column `64 h + l` is head `h` of device `o` at `(r, l)`. -/
def gath : CBuf F := fun (y : S8x2x128x256.Idx) =>
  headAt m ⟨(y 0).val, (y 0).isLt⟩ ⟨(y 1).val, (y 1).isLt⟩ ⟨(y 3).val / 64, by have := (y 3).isLt; change (y 3).val < 256 at this; omega⟩
    (ix4 (0 : Fin 1) (0 : Fin 1) (⟨(y 2).val, (y 2).isLt⟩ : Fin 128) (⟨(y 3).val % 64, Nat.mod_lt _ (by decide)⟩ : Fin 64) : S1x1x128x64.Idx)

/-- Row `o`, batch `b` of the gathered array. -/
def ctx (o : Dev nD) (b : Fin 2) : Vec F S1x1x128x256 .bf16 := cM.view.readAt (Elt F) (rc o b).toLoadRect (gath m)
/-- The rows of device `c`'s output projection that multiply row `o`. -/
def woBlk (c o : Dev nD) : Vec F S256x512 .f32 := woM.view.readAt (Elt F) (rwo o).toLoadRect (wostg m c)

/-- Device `c`'s partial output of batch `b`: its own block, then one more peer's each step. -/
def acc (c : Dev nD) (b : Fin 2) : ℕ → FVec F S1x128x512 .f32
  | 0 => k0_pay28 (k0_pay25 (woBlk m c c)) (ctx m c b)
  | j + 1 => k0_pay34 (woBlk m c (peer c j)) (ctx m (peer c j) b) (acc c b j)

abbrev OBuf (F : FTy → Type) [FloatOps F] : Type := (cc0_stg5_0 : Ref sig .tc).ty.Contents (Elt F)

/-- An output block from its two batches. -/
def outBuf (a₀ a₁ : FVec F S1x128x512 .f32) : OBuf F := fun (y : S2x128x512.Idx) =>
  if (y 0).val = 0 then a₀ (ix3 (0 : Fin 1) (⟨(y 1).val, (y 1).isLt⟩ : Fin 128) (⟨(y 2).val, (y 2).isLt⟩ : Fin 512) : S1x128x512.Idx)
  else a₁ (ix3 (0 : Fin 1) (⟨(y 1).val, (y 1).isLt⟩ : Fin 128) (⟨(y 2).val, (y 2).isLt⟩ : Fin 512) : S1x128x512.Idx)

/-- Device `c`'s output block after `j` peers' blocks. -/
def outStep (c : Dev nD) (j : ℕ) : OBuf F := outBuf (acc m c 0 j) (acc m c 1 j)

/-! ## The schedule -/

/-- What device `d` hands device `c` at the barrier. -/
def barPay (c d : Dev nD) : sProp 𝕄 := iprop((∃ f, slotPts d c fullShare f) ∗ reached ER (recvCell d c) 0)
def sendPay (c : Dev nD) (j : ℕ) : sProp 𝕄 := slotPts c c (Transfers.shareTokN fullShare j) (gath m)
def recvPay (c o : Dev nD) : sProp 𝕄 := slotPts c o fullShare (gath m)

def devOf (n : ℕ) : Dev nD := ⟨n % 8, Nat.mod_lt _ (by decide)⟩
theorem devOf_val (o : Dev nD) : devOf o.val = o := by revert o; decide

def rd : Rounds.Schedule (GSem nD τ sig) (Dev nD) 𝕄 where
  duties g r := if r = 0 then
      match g.2 with
      | .reg _ => Finset.univ.erase g.1.1
      | .dma q => if q.val < 6 then ∅ else if q.val < 13 then {g.1.1} else ({devOf (q.val - 13)} : Finset (Dev nD)).erase g.1.1
    else ∅
  unitless _ := False
  amount g _ _ := match g.2 with
    | .reg _ => 1
    | .dma _ => N
  payload g _ d := match g.2 with
    | .reg _ => barPay g.1.1 d
    | .dma q => if q.val < 6 then iprop(emp) else if q.val < 13 then sendPay m g.1.1 (q.val - 6) else recvPay m g.1.1 (devOf (q.val - 13))
  amount_pos g _ _ _ := by
    rcases g with ⟨t, s | q⟩
    · exact Nat.one_pos
    · exact N_pos

instance rd_payload_storable (g : GSem nD τ sig) (r : ℕ) (d : Dev nD) :
    BI.Storable (upEmb : UEmb _ 𝕄) ((rd (F := F) m).payload g r d) := by
  rcases g with ⟨t, s | q⟩
  · show BI.Storable upEmb (barPay t.1 d)
    unfold barPay; infer_instance
  · show BI.Storable upEmb (if q.val < 6 then iprop(emp) else if q.val < 13 then sendPay m t.1 (q.val - 6) else recvPay m t.1 (devOf (q.val - 13)))
    unfold sendPay recvPay
    (repeat' split) <;> infer_instance

section Sched
variable (c : Dev nD)

theorem duties_bar : (rd (F := F) m).duties (barCell c) 0 = Finset.univ.erase c := rfl
theorem duties_send (j : Fin 7) : (rd (F := F) m).duties (sendCell c j) 0 = {c} := by
  show (if j.val + 6 < 6 then ∅ else if j.val + 6 < 13 then {c} else _) = ({c} : Finset (Dev nD))
  rw [if_neg (by omega), if_pos (by omega)]
theorem duties_recv' (o : Dev nD) : (rd (F := F) m).duties (recvCell c o) 0 = ({o} : Finset (Dev nD)).erase c := by
  show (if o.val + 13 < 6 then ∅ else if o.val + 13 < 13 then {c} else ({devOf (o.val + 13 - 13)} : Finset (Dev nD)).erase c) = _
  rw [if_neg (by omega), if_neg (by omega), Nat.add_sub_cancel, devOf_val]
theorem duties_recv (o : Dev nD) (h : o ≠ c) : (rd (F := F) m).duties (recvCell c o) 0 = {o} := by
  rw [duties_recv', Finset.erase_eq_of_notMem]
  rw [Finset.mem_singleton]; exact fun h' => h h'.symm
theorem duties_later (g : GSem nD τ sig) : ∀ r, 1 ≤ r → (rd (F := F) m).duties g r = ∅ :=
  fun r hr => if_neg (by omega)
/-- The own row's receive cell has no duty at all. -/
theorem duties_own : ∀ r, 0 ≤ r → (rd (F := F) m).duties (recvCell c c) r = ∅ := by
  intro r _
  rcases Nat.eq_zero_or_pos r with rfl | h
  · rw [duties_recv', Finset.erase_singleton]
  · exact duties_later m _ r h

theorem amount_bar (d : Dev nD) : (rd (F := F) m).amount (barCell c) 0 d = 1 := rfl
theorem amount_send (j : Fin 7) (d : Dev nD) : (rd (F := F) m).amount (sendCell c j) 0 d = N := rfl
theorem amount_recv (o d : Dev nD) : (rd (F := F) m).amount (recvCell c o) 0 d = N := rfl

theorem expect_bar : (rd (F := F) m).expect (barCell c) 0 = 7 := by
  unfold Schedule.expect Schedule.amountOf
  rw [duties_bar, Finset.sum_congr rfl fun d _ => amount_bar m c d, Finset.sum_const, smul_eq_mul, Nat.mul_one]
  revert c; decide
theorem expect_send (j : Fin 7) : (rd (F := F) m).expect (sendCell c j) 0 = N := by
  unfold Schedule.expect Schedule.amountOf; rw [duties_send, Finset.sum_singleton, amount_send]
theorem expect_recv (o : Dev nD) (h : o ≠ c) : (rd (F := F) m).expect (recvCell c o) 0 = N := by
  unfold Schedule.expect Schedule.amountOf; rw [duties_recv m c o h, Finset.sum_singleton, amount_recv]

theorem payload_bar (d : Dev nD) : (rd (F := F) m).payload (barCell c) 0 d = barPay c d := rfl
theorem payload_send (j : Fin 7) (d : Dev nD) : (rd (F := F) m).payload (sendCell c j) 0 d = sendPay m c j := by
  show (if j.val + 6 < 6 then iprop(emp) else if j.val + 6 < 13 then sendPay m c (j.val + 6 - 6) else _) = _
  rw [if_neg (by omega), if_pos (by omega), Nat.add_sub_cancel]
theorem payload_recv (o d : Dev nD) : (rd (F := F) m).payload (recvCell c o) 0 d = recvPay m c o := by
  show (if o.val + 13 < 6 then iprop(emp) else if o.val + 13 < 13 then sendPay m c (o.val + 13 - 6) else recvPay m c (devOf (o.val + 13 - 13))) = _
  rw [if_neg (by omega), if_neg (by omega), Nat.add_sub_cancel, devOf_val]

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A family over the other devices is one over the peers. -/
theorem bigSep_peers (Φ : Dev nD → sProp 𝕄) :
    bigSep (Finset.univ.erase c) Φ = bigSep Finset.univ fun j : Fin 7 => Φ (peer c j) := by
  rw [peer_univ, bigSep_map]; rfl

/-- All of the barrier round's payloads: every peer's. -/
theorem rest_bar : bigSep ((rd (F := F) m).duties (barCell c) 0 \ ∅) (fun d => (rd (F := F) m).payload (barCell c) 0 d)
    = bigSep Finset.univ fun j : Fin 7 => barPay c (peer c j) := by
  rw [Finset.sdiff_empty, duties_bar]
  exact bigSep_peers c fun d => barPay c d
theorem rest_send (j : Fin 7) : bigSep ((rd (F := F) m).duties (sendCell c j) 0 \ ∅) (fun d => (rd (F := F) m).payload (sendCell c j) 0 d) = sendPay m c j := by
  rw [Finset.sdiff_empty, duties_send, bigSep_singleton, payload_send]
theorem rest_recv (o : Dev nD) (h : o ≠ c) : bigSep ((rd (F := F) m).duties (recvCell c o) 0 \ ∅) (fun d => (rd (F := F) m).payload (recvCell c o) 0 d) = recvPay m c o := by
  rw [Finset.sdiff_empty, duties_recv m c o h, bigSep_singleton, payload_recv]

end Sched

/-! ## What each core owes; the levels -/

/-- The receive credits still owed when the last `n` copies have not started; -/
def OR (c : Dev nD) : ℕ → CellTallies nD τ sig Unit
  | 0 => 0
  | n + 1 => OR c n + tallyAt (recvCell (peer c (6 - n)) c) () N
/-- with the last `n` barrier units owed too. -/
def OB (c : Dev nD) : ℕ → CellTallies nD τ sig Unit
  | 0 => OR c 7
  | n + 1 => OB c n + tallyAt (barCell (peer c (6 - n))) () 1
def O₀ (c : Dev nD) : CellTallies nD τ sig Unit := OB c 7

def L (g : GSem nD τ sig) : Finset Unit := if g.1.2 = .tc then {()} else ∅
def lv (g : GSem nD τ sig) (_ : Unit) : ℕ := match g.2 with
  | .reg _ => 1
  | .dma q => if q.val < 13 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c o : Dev nD) (u : Unit) : lv (recvCell c o) u = 2 := by
  show (if o.val + 13 < 13 then 0 else 2) = 2
  rw [if_neg (by omega)]

theorem OR_pos {c : Dev nD} {g : GSem nD τ sig} {u : Unit} : ∀ {n}, 0 < OR c n g u → ∃ d, g = recvCell d c
  | 0, h => absurd h (Nat.lt_irrefl 0)
  | n + 1, h => by
    unfold OR at h
    rw [Pi.add_apply, Finsupp.add_apply, tallyAt_apply] at h
    by_cases hg : g = recvCell (peer c (6 - n)) c ∧ u = ()
    · exact ⟨_, hg.1⟩
    · rw [if_neg hg, Nat.add_zero] at h
      exact OR_pos h
theorem OB_pos {c : Dev nD} {g : GSem nD τ sig} {u : Unit} : ∀ {n}, 0 < OB c n g u → (∃ d, g = recvCell d c) ∨ ∃ d, g = barCell d
  | 0, h => .inl (OR_pos h)
  | n + 1, h => by
    unfold OB at h
    rw [Pi.add_apply, Finsupp.add_apply, tallyAt_apply] at h
    by_cases hg : g = barCell (peer c (6 - n)) ∧ u = ()
    · exact .inr ⟨_, hg.1⟩
    · rw [if_neg hg, Nat.add_zero] at h
      exact OB_pos h

/-- At a staging wait a device may owe what it owes at launch, or nothing. -/
theorem mayWait_stage (c : Dev nD) (q : DmaSem sig) (hq : q.val < 13) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨d, rfl⟩ | ⟨d, rfl⟩ <;> exact Finset.mem_singleton_self _)
      (fun p hp => by rw [Finset.mem_singleton.mp hp]; exact le_of_eq (if_pos hq))
      (fun g u hg => by
        rcases OB_pos hg with ⟨d, rfl⟩ | ⟨d, rfl⟩
        · rw [lv_recv]; decide
        · rw [lv_bar]; decide)
  · rw [MayWait_zero]; iintro -; iempintro

/-- At its barrier wait a device owes receive credits only, above its barrier cell. -/
theorem mayWait_bar (c : Dev nD) (n : ℕ) :
    (levAts L lv : sProp 𝕄) ⊢ MayWait (c : Thread nD τ) (.reg barS) () (OR c n) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp]; exact le_of_eq (lv_bar _ _))
    (fun g u hg => by obtain ⟨d, rfl⟩ := OR_pos hg; rw [lv_recv]; decide)

/-! ## What a device's body starts from and leaves -/

/-- Every cell's invariant, under the names `K`, and that it is at round 0 at least. -/
def records (K : Dev nD × Fin 16 → ℕ) : sProp 𝕄 :=
  iprop((bigSep Finset.univ fun ck : Dev nD × Fin 16 => cellInv ER (rd m) (K ck) (kcell ck))
    ∗ bigSep Finset.univ fun ck : Dev nD × Fin 16 => reached ER (kcell ck) 0)

instance records_persistent (K : Dev nD × Fin 16 → ℕ) : BI.Persistent (records m K) := by unfold records; infer_instance

theorem inv_at (K : Dev nD × Fin 16 → ℕ) (ck : Dev nD × Fin 16) :
    (bigSep Finset.univ fun ck : Dev nD × Fin 16 => (cellInv ER (rd m) (K ck) (kcell ck) : sProp 𝕄)) ⊢ cellInv ER (rd m) (K ck) (kcell ck) :=
  bigSep_elim (Finset.mem_univ ck)
theorem reached_at (ck : Dev nD × Fin 16) :
    (bigSep Finset.univ fun ck : Dev nD × Fin 16 => (reached ER (kcell ck) 0 : sProp 𝕄)) ⊢ reached ER (kcell ck) 0 :=
  bigSep_elim (Finset.mem_univ ck)
theorem records_inv (K : Dev nD × Fin 16 → ℕ) (ck : Dev nD × Fin 16) :
    records m K ⊢ cellInv ER (rd m) (K ck) (kcell ck) := by
  unfold records
  iintro ⟨#H, -⟩
  iapply (inv_at m K ck); iexact H
theorem records_reached (K : Dev nD × Fin 16 → ℕ) (ck : Dev nD × Fin 16) :
    records m K ⊢ reached ER (kcell ck) 0 := by
  unfold records
  iintro ⟨-, #H⟩
  iapply (reached_at (F := F) ck); iexact H

/-- Device `c`'s positions at round 0 of its sixteen cells. -/
def posns (c : Dev nD) : sProp 𝕄 :=
  iprop(atPos ER (barCell c) 0 ∅ 0 ∗ (bigSep Finset.univ fun j : Fin 7 => atPos ER (sendCell c j) 0 ∅ 0)
    ∗ atPos ER (recvCell c c) 0 ∅ 0 ∗ bigSep Finset.univ fun j : Fin 7 => atPos ER (recvCell c (peer c j)) 0 ∅ 0)

/-- The tokens of the duties device `c` pays: each peer's barrier, its row's receive cell on each peer, its own send cells. -/
def payToks (c : Dev nD) : sProp 𝕄 :=
  iprop((bigSep Finset.univ fun j : Fin 7 => dutyTok ER (barCell (peer c j)) 0 c)
    ∗ (bigSep Finset.univ fun j : Fin 7 => dutyTok ER (recvCell (peer c j) c) 0 c)
    ∗ bigSep Finset.univ fun j : Fin 7 => dutyTok ER (sendCell c j) 0 c)

def ghost (K : Dev nD × Fin 16 → ℕ) (c : Dev nD) : sProp 𝕄 := iprop(records m K ∗ posns c ∗ payToks c)

/-- The credits a device waits with: its barrier's seven units, one row's credit from each peer. -/
def creds (c : Dev nD) : sProp 𝕄 :=
  iprop(cred (tallyAt (barCell c) () 7) ∗ bigSep Finset.univ fun j : Fin 7 => cred (tallyAt (recvCell c (peer c j)) () N))

def start (c : Dev nD) : sProp 𝕄 := iprop((∃ K, ghost m K c) ∗ creds c ∗ levAts L lv)

def cPts (c : Dev nD) (f : CBuf F) : sProp 𝕄 := ((c : Thread nD τ).loc cc0_scratch0) ↦{fullShare} f

def Φ₀ (c : Dev nD) : sProp 𝕄 := iprop(start m c ∗ ∃ f, cPts c f)
/-- After the point: the gather buffer, and the sixteen cells at zero, closed. -/
def Φ₁ (c : Dev nD) : sProp 𝕄 :=
  iprop((∃ f, cPts c f) ∗ semVal (barCell c) 0 ∗ (bigSep Finset.univ fun j : Fin 7 => semVal (sendCell c j) 0)
    ∗ bigSep Finset.univ fun o : Dev nD => semVal (recvCell c o) 0)

/-- The kernel's result on device `c`. -/
def outAt (c : Dev nD) : (cc0_stg5_0 : Ref sig .tc).ty.Contents (Elt F) := outStep m c 7

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => kstg m c
    | ⟨3, _⟩ => vstg m c
    | ⟨4, _⟩ => wostg m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Gather

end
-- ==== Proof.Steps.lean ====
/-
# One step of the protocol each: a barrier signal to a peer, the copy of the own row to a peer, the waits

Each statement is one rule of the rounds library at this kernel's cells, for a device and an offset named by any
term equal to the peer's, so that the program's own spelling is matched as it stands.
-/
module

public import proofs.«01_k».proof.Proof.Common
public import Idealize.ShloMosaic.Lib.Pipeline.ValueKit.Geometry

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3 ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 16 → ℕ)

/-! ## Names the program uses -/

/-- The semaphore at offset `off` of the eight receive semaphores. -/
abbrev recvS (off : Fin 1 → ℕ) (h : ∀ a, off a + S1.size a ≤ S8.size a) : DmaSems sig S_ :=
  ((cc0_scratch2 : DmaSems sig S8).slice (Rect.unit (s := S8) off S1.size h)).squeeze S_ squeezes_S1_S_
/-- The semaphore at offset `off` of the seven send semaphores. -/
abbrev sendS (off : Fin 1 → ℕ) (h : ∀ a, off a + S1.size a ≤ S7.size a) : DmaSems sig S_ :=
  ((cc0_scratch1 : DmaSems sig S7).slice (Rect.unit (s := S7) off S1.size h)).squeeze S_ squeezes_S1_S_
/-- The row of the gather buffer at offset `off`. -/
abbrev rowM (off : Fin 4 → ℕ) (h : ∀ a, off a + S1x2x128x256.size a ≤ S8x2x128x256.size a) : Memref sig .tc .vmem S2x128x256 .bf16 :=
  (cM.slice (Rect.unit (s := S8x2x128x256) off S1x2x128x256.size h) (fun _ => rfl)).squeeze S2x128x256 squeezes_S1x2x128x256_S2x128x256

theorem recvS_inb (o : Dev nD) : ∀ a, (![o.val] : Fin 1 → ℕ) a + S1.size a ≤ S8.size a := by revert o; decide
theorem sendS_inb (j : Fin 7) : ∀ a, (![j.val] : Fin 1 → ℕ) a + S1.size a ≤ S7.size a := by revert j; decide
theorem recvS_eq (o : Dev nD) (h) : (recvS ![o.val] h).sem = recvQ o := by revert o; decide
theorem sendS_eq (j : Fin 7) (h) : (sendS ![j.val] h).sem = sendQ j := by revert j; decide

/-- What a device owes, whatever waits it has recorded. -/
def ow (c : Dev nD) (O : CellTallies nD τ sig Unit) : sProp 𝕄 := iprop(∃ W, owes (c : Thread nD τ) O W)

/-! ## The barrier -/

/-- Device `c` signals its peer `j` (spelled `n`), handing over that peer's row of its own gather buffer. -/
theorem wp_signal_peer (c n : Dev nD) (j : Fin 7) (hn : n = peer c j) {k' : ℕ} (hk' : 1 = k') {α : Type} {Q : α → sProp 𝕄}
    {k : PUnit → Prog (TpuEff nD τ sig (Elt F) Λ₀ .tc) α} (O' O : CellTallies nD τ sig Unit)
    (hO : O' = O + tallyAt (barCell (peer c j)) () 1) (f : CBuf F) :
    iprop(records m K ∗ ow c O' ∗ dutyTok ER (barCell (peer c j)) 0 c ∗ slotPts c (peer c j) fullShare f)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk' hO
  unfold ow
  iintro ⟨#HR, ⟨%W, HO⟩, Ht, Hs⟩
  iintro Hk
  iapply (Rounds.wp_signal 𝒱₀ ER (rd m) (c : Thread nD τ) none (dst := (peer c j : Thread nD τ)) (κ := K (peer c j, 0))
      (d := c) (by rw [duties_bar]; exact Finset.mem_erase.mpr ⟨(peer_ne c j).symm, Finset.mem_univ _⟩) (amount_bar m (peer c j) c) () O rfl)
    $$ [HO Ht Hs]
  · isplitr; · iapply (records_inv m K (peer c j, 0)); iexact HR
    isplitl [HO]; · iexact HO
    isplitl [Ht]; · iexact Ht
    isplitl [Hs]
    · rw [payload_bar]; unfold barPay
      isplitl [Hs]; · iexists f; iexact Hs
      iapply (records_reached m K (c, recvIx (peer c j))); iexact HR
    iapply (records_reached m K (peer c j, 0)); iexact HR
  iintro HO
  iapply Hk
  iexists W; iexact HO

/-- Device `c` waits for its seven barrier units: every peer's row `c` of that peer's gather buffer comes with them. -/
theorem wp_barrier (c : Dev nD) {k' : ℕ} (hk' : k' = 7) {α : Type} {Q : α → sProp 𝕄} {k : PUnit → Prog (TpuEff nD τ sig (Elt F) Λ₀ .tc) α} :
    iprop(records m K ∗ ow c (OR c 7) ∗ cred (tallyAt (barCell c) () 7) ∗ levAts L lv ∗ atPos ER (barCell c) 0 ∅ 0)
      ⊢ iprop(((ow c (OR c 7) ∗ atPos ER (barCell c) 1 ∅ 0 ∗ bigSep Finset.univ fun j : Fin 7 => barPay c (peer c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold ow
  iintro ⟨#HR, ⟨%W, HO⟩, Hc, #Hlev, Hat⟩
  iintro Hk
  iapply (Rounds.wp_wait_rest_token 𝒱₀ ER (rd m) (c : Thread nD τ) none (κ := K (c, 0))
      (wpE_semWait_eq 𝒱₀ (c : Thread nD τ) none Set.univ) (Set.mem_univ _) () (O := OR c 7) (W := W) (R := 0) (m := 0) (T := ∅)
      (by rw [expect_bar])) $$ [Hc HO Hat]
  · isplitr; · iapply (records_inv m K (c, 0)); iexact HR
    isplitl [Hc]; · iexact Hc
    isplitl [HO]; · iexact HO
    isplitr; · iapply (mayWait_bar c 7); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## The copies -/

/-- Writing row `c` of the gathered array over a row, elsewhere: the row then holds the gathered array. -/
theorem row_write (c d : Dev nD) (fd : CBuf F) :
    (cM.view.loc (d : Thread nD τ) ↦[slotSet c]{fullShare}
        ((slotM c).view.write (Elt F) fd ((slotM c).view.read (Elt F) (gath m)) Finset.univ : CBuf F) : sProp 𝕄)
      = recvPay m d c := by
  unfold recvPay slotPts
  refine pointsTo_congr fun i hi => ?_
  rw [View.write_read_eq_piecewise]
  exact Finset.piecewise_eq_of_mem _ _ _ (by rw [← slotM_set] at hi; exact hi)

/-- A row, named as the copies name it. -/
theorem slotPts_eq (d o : Dev nD) (q : PosShare TreeShare) (f : CBuf F) :
    (slotPts d o q f : sProp 𝕄) = ((slotM o).view.loc (d : Thread nD τ) ↦[(slotM o).view.set]{q} f) := by
  rw [slotM_set]; rfl

/-- The credit of a row, however it is named. -/
theorem row_amount (off : Fin 4 → ℕ) (h) (qr : DmaSem sig) : (rowM off h).view.amount (.dma qr) = N := rfl

/-- Device `c` starts the copy of its row to its peer `j` (spelled `n`). -/
theorem wp_send_peer (c n : Dev nD) (j : Fin 7) (hn : n = peer c j) {off₁ : Fin 1 → ℕ} {off₂ : Fin 1 → ℕ} {off₃ : Fin 4 → ℕ} {h₁ h₂ h₃}
    (ho₁ : off₁ = ![j.val]) (ho₂ : off₂ = ![c.val]) (ho₃ : off₃ = ![c.val, 0, 0, 0])
    {hsc : (rowM off₃ h₃ : Memref sig (Dev.tc n : Thread nD τ).2.kind .vmem S2x128x256 .bf16).view.ref.isScScratch = false}
    {hsrc : (rowM off₃ h₃).view.WordExact} {hdst : (rowM off₃ h₃).view.WordExact}
    {hsem : DmaTarget.Typed .vmem (.dma (recvS off₂ h₂).sem) (.remote (Dev.tc n : Thread nD τ) (rowM off₃ h₃) (.dma (sendS off₁ h₁).sem) hsc)}
    {α : Type} {Q : α → sProp 𝕄} {k : PUnit → Prog (TpuEff nD τ sig (Elt F) Λ₀ .tc) α} (O' O : CellTallies nD τ sig Unit)
    (hO : O' = O + tallyAt (recvCell (peer c j) c) () N) (fd : CBuf F) :
    iprop(records m K ∗ ow c O' ∗ slotPts c c (Transfers.shareTokN fullShare j) (gath m) ∗ slotPts (peer c j) c fullShare fd
        ∗ dutyTok ER (sendCell c j) 0 c ∗ dutyTok ER (recvCell (peer c j) c) 0 c)
      ⊢ iprop(((cred (tallyAt (sendCell c j) () N) ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM off₃ h₃) (.remote (Dev.tc n : Thread nD τ) (rowM off₃ h₃) (.dma (sendS off₁ h₁).sem) hsc) (.dma (recvS off₂ h₂).sem) hsrc hdst hsem) k) Q) := by
  subst hn ho₁ ho₂ ho₃ hO
  unfold ow
  iintro ⟨#HR, ⟨%W, HO⟩, Hs, Hd, Ht, Ht'⟩
  iintro Hk
  have hs := sendS_eq j h₁
  have hr := recvS_eq c h₂
  generalize (sendS ![j.val] h₁).sem = qs at *
  generalize (recvS ![c.val] h₂).sem = qr at *
  subst hs hr
  iapply (Rounds.wp_send_pointsTo 𝒱₀ ER (rd m) (c : Thread nD τ) none (κ₁ := K (c, sendIx j)) (κ₂ := K (peer c j, recvIx c))
    (r₁ := 0) (r₂ := 0) (d₁ := c) (d₂ := c) (fs := gath m) (fd := fd) (q := Transfers.shareTokN fullShare j)
    (by rw [duties_send]; exact Finset.mem_singleton_self _) (by rw [duties_recv m _ _ (peer_ne c j).symm]; exact Finset.mem_singleton_self _)
    () () N (row_amount _ _ _) (amount_send m c j c) (amount_recv m (peer c j) c c) O rfl (W := W)
    (by rw [payload_send]; unfold sendPay; rw [slotPts_eq])
    (by rw [payload_recv, ← row_write m c (peer c j) fd, ← slotM_set])) $$ [HO Hs Hd Ht Ht']
  · isplitr; · iapply (records_inv m K (c, sendIx j)); iexact HR
    isplitr; · iapply (records_inv m K (peer c j, recvIx c)); iexact HR
    isplitl [Hs]; · iapply (Entails.of_eq (slotPts_eq c c _ (gath m))); iexact Hs
    isplitl [Hd]; · iapply (Entails.of_eq (slotPts_eq (peer c j) c _ fd)); iexact Hd
    isplitl [HO]; · iexact HO
    isplitl [Ht]; · iexact Ht
    isplitr; · iapply (records_reached m K (c, sendIx j)); iexact HR
    isplitl [Ht']; · iexact Ht'
    iapply (records_reached m K (peer c j, recvIx c)); iexact HR
  iintro ⟨Hc, HO⟩
  iapply Hk
  isplitl [Hc]; · iexact Hc
  iexists W; iexact HO

/-- Device `c`, owing nothing, waits for the row of its peer `j`: the row comes with it, holding the gathered array. -/
theorem wp_recv_peer (c : Dev nD) (j : Fin 7) {off : Fin 1 → ℕ} {off' : Fin 4 → ℕ} {h h'}
    (ho : off = ![(peer c j).val]) {hsrc : (rowM off' h').view.WordExact} {hdst : (rowM off' h').view.WordExact}
    {α : Type} {Q : α → sProp 𝕄} {k : PUnit → Prog (TpuEff nD τ sig (Elt F) Λ₀ .tc) α} :
    iprop(records m K ∗ ow c 0 ∗ cred (tallyAt (recvCell c (peer c j)) () N) ∗ atPos ER (recvCell c (peer c j)) 0 ∅ 0)
      ⊢ iprop(((ow c 0 ∗ atPos ER (recvCell c (peer c j)) 1 ∅ 0 ∗ slotPts c (peer c j) fullShare (gath m))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS off h).sem (rowM off' h') (rowM off' h') hsrc hdst) k) Q) := by
  subst ho
  unfold ow
  iintro ⟨#HR, ⟨%W, HO⟩, Hc, Hat⟩
  iintro Hk
  have hr := recvS_eq (peer c j) h
  generalize (recvS ![(peer c j).val] h).sem = qr at *
  subst hr
  iapply (Rounds.wp_wait_rest_token 𝒱₀ ER (rd m) (c : Thread nD τ) none (κ := K (c, recvIx (peer c j)))
      (wpE_waitDma2_eq 𝒱₀ (c : Thread nD τ) none Set.univ) (Set.mem_univ _) () (O := 0) (W := W) (R := 0) (m := 0) (T := ∅)
      (by rw [Nat.zero_add, expect_recv m c _ (peer_ne c j)])) $$ [Hc HO Hat]
  · isplitr; · iapply (records_inv m K (c, recvIx (peer c j))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c (peer c j) (peer_ne c j))) $$ Hpay
  iapply Hk
  isplitl [HO]; · iexists _; iexact HO
  isplitl [Hat]; · iexact Hat
  unfold recvPay; iexact Hp

/-- Device `c`, owing nothing, waits for its copy to peer `j` to have left: the share of its row comes back. -/
theorem wp_sent (c : Dev nD) (j : Fin 7) {off : Fin 1 → ℕ} {off' : Fin 4 → ℕ} {h h'}
    (ho : off = ![j.val]) {hsrc : (rowM off' h').view.WordExact} {hdst : (rowM off' h').view.WordExact}
    {α : Type} {Q : α → sProp 𝕄} {k : PUnit → Prog (TpuEff nD τ sig (Elt F) Λ₀ .tc) α} :
    iprop(records m K ∗ ow c 0 ∗ cred (tallyAt (sendCell c j) () N) ∗ atPos ER (sendCell c j) 0 ∅ 0)
      ⊢ iprop(((ow c 0 ∗ atPos ER (sendCell c j) 1 ∅ 0 ∗ slotPts c c (Transfers.shareTokN fullShare j) (gath m))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS off h).sem (rowM off' h') (rowM off' h') hsrc hdst) k) Q) := by
  subst ho
  unfold ow
  iintro ⟨#HR, ⟨%W, HO⟩, Hc, Hat⟩
  iintro Hk
  have hs := sendS_eq j h
  generalize (sendS ![j.val] h).sem = qs at *
  subst hs
  iapply (Rounds.wp_wait_rest_token 𝒱₀ ER (rd m) (c : Thread nD τ) none (κ := K (c, sendIx j))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (records_inv m K (c, sendIx j)); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexists _; iexact HO
  isplitl [Hat]; · iexact Hat
  unfold sendPay; iexact Hp

/-! ## Loads and stores of the gather buffer -/

/-- The elements a unit-stride rectangle of the gather buffer names lie in the row its leading offset names. -/
theorem rect_sub (o : Dev nD) (off size : Fin 4 → ℕ) (inb) (h0 : off 0 = o.val) (h1 : size 0 = 1) :
    (Finset.univ.map (Rect.unit (s := S8x2x128x256) off size inb).emb) ⊆ slotSet o := by
  intro i hi
  obtain ⟨x, -, rfl⟩ := Finset.mem_map.mp hi
  rw [mem_slotSet, ValueKit.rect_emb_unit_val, h0]
  have hx : (x 0).val < size 0 := (x 0).isLt
  omega

theorem load_sub (o : Dev nD) (off size : Fin 4 → ℕ) (inb) (h0 : off 0 = o.val) (h1 : size 0 = 1) :
    cM.view.setOn (Rect.unit (s := S8x2x128x256) off size inb).toLoadRect.set ⊆ slotSet o := by
  intro i hi
  obtain ⟨x, hx, rfl⟩ := Finset.mem_map.mp hi
  obtain ⟨j, hj, he⟩ := (LoadRect.mem_set _).mp hx 0
  change j < size 0 at hj
  change (x 0).val = off 0 + 1 * j at he
  refine mem_slotSet.mpr ?_
  change (x 0).val = o.val
  omega

/-- Loading row `o`, batch `b` of the gather buffer. -/
theorem wp_load_row (c o : Dev nD) (b : Fin 2) (q : PosShare TreeShare) {off : Fin 4 → ℕ} (ho : off = ![o.val, b.val, 0, 0]) {h}
    {hl : cM.view.LoadsAt (Rect.unit (s := S8x2x128x256) off S1x1x128x256.size h).toLoadRect}
    {α : Type} {Q : α → sProp 𝕄} {k : Vec F S1x1x128x256 .bf16 → Prog (TpuEff nD τ sig (Elt F) Λ₀ .tc) α} :
    slotPts c o q (gath m)
      ⊢ iprop((slotPts c o q (gath m) -∗ wp frame (wpE (defs₀ (F := F)) 𝒱₀ (c : Thread nD τ) none) Set.univ (k (ctx m o b)) Q)
          -∗ wp frame (wpE (defs₀ (F := F)) 𝒱₀ (c : Thread nD τ) none) Set.univ
              (.op (.load cM (Rect.unit (s := S8x2x128x256) off S1x1x128x256.size h).toLoadRect hl) k) Q) := by
  subst ho
  exact wp_load 𝒱₀ (c : Thread nD τ) none Set.univ (m := cM) (load_sub o _ _ _ rfl rfl)

/-- The first `n` of a row's eight batch-and-head blocks hold the gathered array. -/
def Filled (c : Dev nD) (n : ℕ) (f : CBuf F) : Prop :=
  ∀ y : S8x2x128x256.Idx, (y 0).val = c.val → (y 1).val * 4 + (y 3).val / 64 < n → f y = gath m y

/-- Device `c`'s own row, `n` blocks computed. -/
def fill (c : Dev nD) (n : ℕ) : sProp 𝕄 := iprop(∃ f, ⌜Filled m c n f⌝ ∗ slotPts c c fullShare f)

theorem fill_start (c : Dev nD) (f : CBuf F) : slotPts c c fullShare f ⊢ fill m c 0 := by
  unfold fill
  iintro H
  iexists f
  isplitr
  · ipureintro; exact fun y _ h => absurd h (Nat.not_lt_zero _)
  iexact H

theorem fill_end (c : Dev nD) : fill m c 8 ⊢ slotPts c c fullShare (gath m) := by
  unfold fill slotPts
  iintro ⟨%f, %hf, H⟩
  iapply (Entails.of_eq (pointsTo_congr (f := f) (g := gath m) fun y hy => hf y (mem_slotSet.mp hy) (by
    have h1 : (y 1).val < 2 := (y 1).isLt
    have h3 : (y 3).val < 256 := (y 3).isLt
    omega)))
  iexact H

/-- A load of the own row whose value is not used. -/
theorem wp_load_dead (c : Dev nD) (n : ℕ) {off : Fin 4 → ℕ} (h0 : off 0 = c.val) {h}
    {hl : cM.view.LoadsAt (Rect.unit (s := S8x2x128x256) off S1x1x128x64.size h).toLoadRect}
    {α : Type} {Q : α → sProp 𝕄} {k : Vec F S1x1x128x64 .bf16 → Prog (TpuEff nD τ sig (Elt F) Λ₀ .tc) α} :
    fill m c n
      ⊢ iprop((∀ v, fill m c n -∗ wp frame (wpE (defs₀ (F := F)) 𝒱₀ (c : Thread nD τ) none) Set.univ (k v) Q)
          -∗ wp frame (wpE (defs₀ (F := F)) 𝒱₀ (c : Thread nD τ) none) Set.univ
              (.op (.load cM (Rect.unit (s := S8x2x128x256) off S1x1x128x64.size h).toLoadRect hl) k) Q) := by
  unfold fill slotPts
  iintro ⟨%f, %hf, H⟩
  iintro Hk
  iapply (wp_load 𝒱₀ (c : Thread nD τ) none Set.univ (m := cM) (load_sub c _ _ _ h0 rfl)) $$ H
  iintro H
  iapply Hk
  iexists f
  isplitr; · ipureintro; exact hf
  iexact H

/-- Writing one head of one batch fills one block more. -/
theorem filled_step (c : Dev nD) (b : Fin 2) (h : Fin 4) (f : CBuf F) (hf : Filled m c (4 * b.val + h.val) f) :
    Filled m c (4 * b.val + h.val + 1) ((cM.access (rh c b h)).write (Elt F) f (headAt m c b h) Finset.univ) := by
  intro y hy hlt
  have hy1 : (y 1).val < 2 := (y 1).isLt
  have hy2 : (y 2).val < 128 := (y 2).isLt
  have hy3 : (y 3).val < 256 := (y 3).isLt
  by_cases hin : (y 1).val * 4 + (y 3).val / 64 < 4 * b.val + h.val
  · rw [View.write_of_not_mem]
    · exact hf y hy hin
    · intro hmem
      obtain ⟨x, -, rfl⟩ := Finset.mem_map.mp hmem
      have e1 : ((rh c b h).emb x 1).val = b.val + (x 1).val := ValueKit.rect_emb_unit_val _ _ _ x 1
      have e3 : ((rh c b h).emb x 3).val = 64 * h.val + (x 3).val := ValueKit.rect_emb_unit_val _ _ _ x 3
      change ((rh c b h).emb x 1).val * 4 + ((rh c b h).emb x 3).val / 64 < _ at hin
      omega
  · have hb : (y 1).val = b.val := by omega
    have hh : (y 3).val / 64 = h.val := by omega
    have key : y = (rh c b h).emb (ix4 (0 : Fin 1) (0 : Fin 1) (⟨(y 2).val, hy2⟩ : Fin 128) (⟨(y 3).val % 64, Nat.mod_lt _ (by decide)⟩ : Fin 64)) := by
      funext a
      refine Fin.ext ?_
      rw [ValueKit.rect_emb_unit_val]
      fin_cases a
      · show (y 0).val = c.val + 0; omega
      · show (y 1).val = b.val + 0; omega
      · show (y 2).val = 0 + (y 2).val; omega
      · show (y 3).val = 64 * h.val + (y 3).val % 64; omega
    have hw := View.write_emb_of_mem (v := cM.access (rh c b h)) (Val := Elt F) f (headAt m c b h) (M := Finset.univ)
      (Finset.mem_univ (ix4 (0 : Fin 1) (0 : Fin 1) (⟨(y 2).val, hy2⟩ : Fin 128) (⟨(y 3).val % 64, Nat.mod_lt _ (by decide)⟩ : Fin 64)))
    change (cM.access (rh c b h)).write (Elt F) f (headAt m c b h) Finset.univ ((rh c b h).emb _) = _ at hw
    rw [← key] at hw
    rw [hw]
    unfold gath
    rw [show (⟨(y 0).val, (y 0).isLt⟩ : Dev nD) = c from Fin.ext hy, show (⟨(y 1).val, (y 1).isLt⟩ : Fin 2) = b from Fin.ext hb]
    simp only [hh]
    rfl

/-- The store of head `h` of batch `b`. -/
theorem wp_store_head (c : Dev nD) (b : Fin 2) (h : Fin 4) {off : Fin 4 → ℕ} (ho : off = ![c.val, b.val, 0, 64 * h.val]) {hi}
    {w : FVec F S1x1x128x64 .bf16} (hw : w = headAt m c b h)
    {hx : (cM.access (Rect.unit (s := S8x2x128x256) off S1x1x128x64.size hi)).Stores Finset.univ}
    {hm : (Finset.univ : Finset (Rect.unit (s := S8x2x128x256) off S1x1x128x64.size hi).shape.Idx) = Finset.univ ∨ ∀ a, (Rect.unit (s := S8x2x128x256) off S1x1x128x64.size hi).stride a = 1}
    {α : Type} {Q : α → sProp 𝕄} {k : PUnit → Prog (TpuEff nD τ sig (Elt F) Λ₀ .tc) α} :
    fill m c (4 * b.val + h.val)
      ⊢ iprop((fill m c (4 * b.val + h.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.store cM (Rect.unit (s := S8x2x128x256) off S1x1x128x64.size hi) w Finset.univ hx hm) k) Q) := by
  subst ho hw
  unfold fill slotPts
  iintro ⟨%f, %hf, H⟩
  iintro Hk
  iapply (wp_store 𝒱₀ (c : Thread nD τ) none Set.univ (m := cM) (r := rh c b h) (Mk := Finset.univ) (rect_sub c _ _ _ rfl rfl)) $$ H
  iintro H
  iapply Hk
  iexists _
  isplitr; · ipureintro; exact filled_step m c b h f hf
  iexact H

/-! ## Loads of the inputs -/

/-- Device `c`'s five input blocks. -/
def inp (c : Dev nD) : sProp 𝕄 :=
  iprop((((c : Thread nD τ).loc cc0_stg0_0) ↦{fullShare} (xstg m c)) ∗ (((c : Thread nD τ).loc cc0_stg1_0) ↦{fullShare} (wqstg m c))
    ∗ (((c : Thread nD τ).loc cc0_stg2_0) ↦{fullShare} (kstg m c)) ∗ (((c : Thread nD τ).loc cc0_stg3_0) ↦{fullShare} (vstg m c))
    ∗ (((c : Thread nD τ).loc cc0_stg4_0) ↦{fullShare} (wostg m c)))

/-- Device `c`'s batch `b` of the input; its columns of the query projection; its keys and values of head `h` of batch `b`. -/
def xB (c : Dev nD) (b : Fin 2) : Vec F S1x128x512 .f32 := xM.view.readAt (Elt F) (rx b).toLoadRect (xstg m c)
def wqB (c : Dev nD) : Vec F S512x256 .f32 := wqM.view.readAt (Elt F) (rwq c).toLoadRect (wqstg m c)
def kB (c : Dev nD) (b : Fin 2) (h : Fin 4) : Vec F S1x128x1x64 .f32 := kM.view.readAt (Elt F) (rk b h).toLoadRect (kstg m c)
def vB (c : Dev nD) (b : Fin 2) (h : Fin 4) : Vec F S1x128x1x64 .f32 := vM.view.readAt (Elt F) (rk b h).toLoadRect (vstg m c)

theorem headAt_eq (c : Dev nD) (b : Fin 2) (h : Fin 4) :
    headAt m c b h = k0_pay10 maskV (qHead (k0_pay6 (wqB m c) (xB m c b)) h) (k0_pay9 (kB m c b h)) (vB m c b h) := rfl

theorem wp_load_x (c : Dev nD) (b : Fin 2) {off : Fin 3 → ℕ} (ho : off = ![b.val, 0, 0]) {h}
    {hl : xM.view.LoadsAt (Rect.unit (s := S2x128x512) off S1x128x512.size h).toLoadRect}
    {α : Type} {Q : α → sProp 𝕄} {k : Vec F S1x128x512 .f32 → Prog (TpuEff nD τ sig (Elt F) Λ₀ .tc) α} :
    inp m c
      ⊢ iprop((inp m c -∗ wp frame (wpE (defs₀ (F := F)) 𝒱₀ (c : Thread nD τ) none) Set.univ (k (xB m c b)) Q)
          -∗ wp frame (wpE (defs₀ (F := F)) 𝒱₀ (c : Thread nD τ) none) Set.univ
              (.op (.load xM (Rect.unit (s := S2x128x512) off S1x128x512.size h).toLoadRect hl) k) Q) := by
  subst ho
  unfold inp
  iintro ⟨Hx, Hr⟩
  iintro Hk
  iapply (wp_load 𝒱₀ (c : Thread nD τ) none Set.univ (m := xM) (Finset.subset_univ _)) $$ Hx
  iintro Hx
  iapply Hk
  isplitl [Hx]; · iexact Hx
  iexact Hr

theorem wp_load_wq (c : Dev nD) {off : Fin 2 → ℕ} (ho : off = ![0, 256 * c.val]) {h}
    {hl : wqM.view.LoadsAt (Rect.unit (s := S512x2048) off S512x256.size h).toLoadRect}
    {α : Type} {Q : α → sProp 𝕄} {k : Vec F S512x256 .f32 → Prog (TpuEff nD τ sig (Elt F) Λ₀ .tc) α} :
    inp m c
      ⊢ iprop((inp m c -∗ wp frame (wpE (defs₀ (F := F)) 𝒱₀ (c : Thread nD τ) none) Set.univ (k (wqB m c)) Q)
          -∗ wp frame (wpE (defs₀ (F := F)) 𝒱₀ (c : Thread nD τ) none) Set.univ
              (.op (.load wqM (Rect.unit (s := S512x2048) off S512x256.size h).toLoadRect hl) k) Q) := by
  subst ho
  unfold inp
  iintro ⟨Hx, Hq, Hr⟩
  iintro Hk
  iapply (wp_load 𝒱₀ (c : Thread nD τ) none Set.univ (m := wqM) (Finset.subset_univ _)) $$ Hq
  iintro Hq
  iapply Hk
  isplitl [Hx]; · iexact Hx
  isplitl [Hq]; · iexact Hq
  iexact Hr

theorem wp_load_k (c : Dev nD) (b : Fin 2) (h : Fin 4) {off : Fin 4 → ℕ} (ho : off = ![b.val, 0, h.val, 0]) {hi}
    {hl : kM.view.LoadsAt (Rect.unit (s := S2x128x4x64) off S1x128x1x64.size hi).toLoadRect}
    {α : Type} {Q : α → sProp 𝕄} {k : Vec F S1x128x1x64 .f32 → Prog (TpuEff nD τ sig (Elt F) Λ₀ .tc) α} :
    inp m c
      ⊢ iprop((inp m c -∗ wp frame (wpE (defs₀ (F := F)) 𝒱₀ (c : Thread nD τ) none) Set.univ (k (kB m c b h)) Q)
          -∗ wp frame (wpE (defs₀ (F := F)) 𝒱₀ (c : Thread nD τ) none) Set.univ
              (.op (.load kM (Rect.unit (s := S2x128x4x64) off S1x128x1x64.size hi).toLoadRect hl) k) Q) := by
  subst ho
  unfold inp
  iintro ⟨Hx, Hq, Hkk, Hr⟩
  iintro Hk
  iapply (wp_load 𝒱₀ (c : Thread nD τ) none Set.univ (m := kM) (Finset.subset_univ _)) $$ Hkk
  iintro Hkk
  iapply Hk
  isplitl [Hx]; · iexact Hx
  isplitl [Hq]; · iexact Hq
  isplitl [Hkk]; · iexact Hkk
  iexact Hr

theorem wp_load_v (c : Dev nD) (b : Fin 2) (h : Fin 4) {off : Fin 4 → ℕ} (ho : off = ![b.val, 0, h.val, 0]) {hi}
    {hl : vM.view.LoadsAt (Rect.unit (s := S2x128x4x64) off S1x128x1x64.size hi).toLoadRect}
    {α : Type} {Q : α → sProp 𝕄} {k : Vec F S1x128x1x64 .f32 → Prog (TpuEff nD τ sig (Elt F) Λ₀ .tc) α} :
    inp m c
      ⊢ iprop((inp m c -∗ wp frame (wpE (defs₀ (F := F)) 𝒱₀ (c : Thread nD τ) none) Set.univ (k (vB m c b h)) Q)
          -∗ wp frame (wpE (defs₀ (F := F)) 𝒱₀ (c : Thread nD τ) none) Set.univ
              (.op (.load vM (Rect.unit (s := S2x128x4x64) off S1x128x1x64.size hi).toLoadRect hl) k) Q) := by
  subst ho
  unfold inp
  iintro ⟨Hx, Hq, Hkk, Hv, Hr⟩
  iintro Hk
  iapply (wp_load 𝒱₀ (c : Thread nD τ) none Set.univ (m := vM) (Finset.subset_univ _)) $$ Hv
  iintro Hv
  iapply Hk
  isplitl [Hx]; · iexact Hx
  isplitl [Hq]; · iexact Hq
  isplitl [Hkk]; · iexact Hkk
  isplitl [Hv]; · iexact Hv
  iexact Hr

/-- Loading the 256 rows of the output projection that multiply row `o`. -/
theorem wp_load_wo (c o : Dev nD) {off : Fin 2 → ℕ} (ho : off = ![256 * o.val, 0]) {h}
    {hl : woM.view.LoadsAt (Rect.unit (s := S2048x512) off S256x512.size h).toLoadRect}
    {α : Type} {Q : α → sProp 𝕄} {k : Vec F S256x512 .f32 → Prog (TpuEff nD τ sig (Elt F) Λ₀ .tc) α} :
    inp m c
      ⊢ iprop((inp m c -∗ wp frame (wpE (defs₀ (F := F)) 𝒱₀ (c : Thread nD τ) none) Set.univ (k (woBlk m c o)) Q)
          -∗ wp frame (wpE (defs₀ (F := F)) 𝒱₀ (c : Thread nD τ) none) Set.univ
              (.op (.load woM (Rect.unit (s := S2048x512) off S256x512.size h).toLoadRect hl) k) Q) := by
  subst ho
  unfold inp
  iintro ⟨Hx, Hq, Hkk, Hv, Ho⟩
  iintro Hk
  iapply (wp_load 𝒱₀ (c : Thread nD τ) none Set.univ (m := woM) (Finset.subset_univ _)) $$ Ho
  iintro Ho
  iapply Hk
  isplitl [Hx]; · iexact Hx
  isplitl [Hq]; · iexact Hq
  isplitl [Hkk]; · iexact Hkk
  isplitl [Hv]; · iexact Hv
  iexact Ho

/-! ## The output block -/

/-- An index of one batch's block. -/
theorem idx_batch (x : S1x128x512.Idx) :
    x = ix3 (0 : Fin 1) (⟨(x 1).val, (x 1).isLt⟩ : Fin 128) (⟨(x 2).val, (x 2).isLt⟩ : Fin 512) := by
  funext a
  refine Fin.ext ?_
  have h0 : (x 0).val < 1 := (x 0).isLt
  fin_cases a
  · show (x 0).val = 0; omega
  · rfl
  · rfl

theorem emb_batch (b : Fin 2) (x : S1x128x512.Idx) :
    ((rx b).emb x 0).val = b.val ∧ ((rx b).emb x 1).val = (x 1).val ∧ ((rx b).emb x 2).val = (x 2).val := by
  have h0 : (x 0).val < 1 := (x 0).isLt
  refine ⟨?_, ?_, ?_⟩
  · rw [ValueKit.rect_emb_unit_val]; show b.val + (x 0).val = b.val; omega
  · rw [ValueKit.rect_emb_unit_val]; show 0 + (x 1).val = (x 1).val; omega
  · rw [ValueKit.rect_emb_unit_val]; show 0 + (x 2).val = (x 2).val; omega

theorem read_batch (b : Fin 2) (a₀ a₁ : FVec F S1x128x512 .f32) :
    oM.view.readAt (Elt F) (rx b).toLoadRect (outBuf a₀ a₁) = if b = 0 then a₀ else a₁ := by
  funext x
  obtain ⟨e0, e1, e2⟩ := emb_batch b x
  show outBuf a₀ a₁ ((rx b).emb x) = _
  unfold outBuf
  simp only [e0, e1, e2, ← idx_batch x]
  fin_cases b <;> simp

theorem exists_batch (y : S2x128x512.Idx) (b : Fin 2) (hb : (y 0).val = b.val) : ∃ x : S1x128x512.Idx, (rx b).emb x = y := by
  refine ⟨ix3 (0 : Fin 1) (⟨(y 1).val, (y 1).isLt⟩ : Fin 128) (⟨(y 2).val, (y 2).isLt⟩ : Fin 512), ?_⟩
  obtain ⟨e0, e1, e2⟩ := emb_batch b (ix3 (0 : Fin 1) (⟨(y 1).val, (y 1).isLt⟩ : Fin 128) (⟨(y 2).val, (y 2).isLt⟩ : Fin 512))
  funext a
  refine Fin.ext ?_
  fin_cases a
  · exact e0.trans hb.symm
  · exact e1
  · exact e2

theorem write_batch (b : Fin 2) (f : OBuf F) (w : FVec F S1x128x512 .f32) (y : S2x128x512.Idx) :
    ((oM.access (rx b)).write (Elt F) f w Finset.univ : OBuf F) y
      = if (y 0).val = b.val then w (ix3 (0 : Fin 1) (⟨(y 1).val, (y 1).isLt⟩ : Fin 128) (⟨(y 2).val, (y 2).isLt⟩ : Fin 512)) else f y := by
  split
  · rename_i hb
    obtain ⟨x, rfl⟩ := exists_batch y b hb
    obtain ⟨e0, e1, e2⟩ := emb_batch b x
    simp only [e1, e2, ← idx_batch x]
    exact View.write_emb_of_mem (v := oM.access (rx b)) (Val := Elt F) f w (M := Finset.univ) (Finset.mem_univ x)
  · rename_i hb
    refine View.write_of_not_mem _ _ _ fun hmem => hb ?_
    obtain ⟨x, -, rfl⟩ := Finset.mem_map.mp hmem
    exact (emb_batch b x).1

/-- Any output block is two batches. -/
theorem outBuf_eta (f : OBuf F) : ∃ a₀ a₁, f = outBuf a₀ a₁ := by
  refine ⟨oM.view.readAt (Elt F) (rx 0).toLoadRect f, oM.view.readAt (Elt F) (rx 1).toLoadRect f, ?_⟩
  funext (y : S2x128x512.Idx)
  have h0 : (y 0).val < 2 := (y 0).isLt
  unfold outBuf
  by_cases h : (y 0).val = 0
  · rw [if_pos h]
    obtain ⟨x, rfl⟩ := exists_batch y 0 h
    obtain ⟨e0, e1, e2⟩ := emb_batch 0 x
    simp only [e1, e2, ← idx_batch x]
    rfl
  · rw [if_neg h]
    obtain ⟨x, rfl⟩ := exists_batch y 1 (by show (y 0).val = 1; omega)
    obtain ⟨e0, e1, e2⟩ := emb_batch 1 x
    simp only [e1, e2, ← idx_batch x]
    rfl

theorem write_zero (a₀ a₁ w : FVec F S1x128x512 .f32) :
    ((oM.access (rx 0)).write (Elt F) (outBuf a₀ a₁) w Finset.univ : OBuf F) = outBuf w a₁ := by
  funext y
  rw [write_batch]
  unfold outBuf
  by_cases h : (y 0).val = 0
  · rw [if_pos (by rw [h]; rfl), if_pos h]
  · rw [if_neg (by show ¬ (y 0).val = 0; exact h), if_neg h, if_neg h]

theorem write_one (a₀ a₁ w : FVec F S1x128x512 .f32) :
    ((oM.access (rx 1)).write (Elt F) (outBuf a₀ a₁) w Finset.univ : OBuf F) = outBuf a₀ w := by
  funext y
  have h0 : (y 0).val < 2 := (y 0).isLt
  rw [write_batch]
  unfold outBuf
  by_cases h : (y 0).val = 0
  · rw [if_neg (by rw [h]; decide), if_pos h, if_pos h]
  · rw [if_pos (by show (y 0).val = 1; omega), if_neg h]

/-- The two batches of device `c`'s output block. -/
def outs (c : Dev nD) (a₀ a₁ : FVec F S1x128x512 .f32) : sProp 𝕄 := ((c : Thread nD τ).loc cc0_stg5_0) ↦{fullShare} (outBuf a₀ a₁)

/-- Loading batch 0 of the output block; batch 1; storing them. -/
theorem wp_load_out0 (c : Dev nD) (a₀ a₁ : FVec F S1x128x512 .f32) {h}
    {hl : oM.view.LoadsAt (Rect.unit (s := S2x128x512) ![0, 0, 0] S1x128x512.size h).toLoadRect}
    {α : Type} {Q : α → sProp 𝕄} {k : Vec F S1x128x512 .f32 → Prog (TpuEff nD τ sig (Elt F) Λ₀ .tc) α} :
    outs c a₀ a₁
      ⊢ iprop((outs c a₀ a₁ -∗ wp frame (wpE (defs₀ (F := F)) 𝒱₀ (c : Thread nD τ) none) Set.univ (k a₀) Q)
          -∗ wp frame (wpE (defs₀ (F := F)) 𝒱₀ (c : Thread nD τ) none) Set.univ
              (.op (.load oM (Rect.unit (s := S2x128x512) ![0, 0, 0] S1x128x512.size h).toLoadRect hl) k) Q) := by
  have := wp_load (Γ := .empty) (defs := defs₀ (F := F)) 𝒱₀ (c : Thread nD τ) none Set.univ (m := oM) (r := (rx 0).toLoadRect) (hl := hl) (k := k) (Q := Q)
    (q := fullShare) (f := outBuf a₀ a₁) (Finset.subset_univ _)
  rw [read_batch] at this
  exact this

theorem wp_load_out1 (c : Dev nD) (a₀ a₁ : FVec F S1x128x512 .f32) {h}
    {hl : oM.view.LoadsAt (Rect.unit (s := S2x128x512) ![1, 0, 0] S1x128x512.size h).toLoadRect}
    {α : Type} {Q : α → sProp 𝕄} {k : Vec F S1x128x512 .f32 → Prog (TpuEff nD τ sig (Elt F) Λ₀ .tc) α} :
    outs c a₀ a₁
      ⊢ iprop((outs c a₀ a₁ -∗ wp frame (wpE (defs₀ (F := F)) 𝒱₀ (c : Thread nD τ) none) Set.univ (k a₁) Q)
          -∗ wp frame (wpE (defs₀ (F := F)) 𝒱₀ (c : Thread nD τ) none) Set.univ
              (.op (.load oM (Rect.unit (s := S2x128x512) ![1, 0, 0] S1x128x512.size h).toLoadRect hl) k) Q) := by
  have := wp_load (Γ := .empty) (defs := defs₀ (F := F)) 𝒱₀ (c : Thread nD τ) none Set.univ (m := oM) (r := (rx 1).toLoadRect) (hl := hl) (k := k) (Q := Q)
    (q := fullShare) (f := outBuf a₀ a₁) (Finset.subset_univ _)
  rw [read_batch] at this
  exact this

theorem wp_store_out0 (c : Dev nD) (a₀ a₁ : FVec F S1x128x512 .f32) {hi} (w' : FVec F S1x128x512 .f32) {w : FVec F S1x128x512 .f32} (hw : w = w')
    {hx : (oM.access (Rect.unit (s := S2x128x512) ![0, 0, 0] S1x128x512.size hi)).Stores Finset.univ}
    {hm : (Finset.univ : Finset (Rect.unit (s := S2x128x512) ![0, 0, 0] S1x128x512.size hi).shape.Idx) = Finset.univ ∨ ∀ a, (Rect.unit (s := S2x128x512) ![0, 0, 0] S1x128x512.size hi).stride a = 1}
    {α : Type} {Q : α → sProp 𝕄} {k : PUnit → Prog (TpuEff nD τ sig (Elt F) Λ₀ .tc) α} :
    outs c a₀ a₁
      ⊢ iprop((outs c w' a₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S2x128x512) ![0, 0, 0] S1x128x512.size hi) w Finset.univ hx hm) k) Q) := by
  subst hw
  have := wp_store (Γ := .empty) (defs := defs₀ (F := F)) 𝒱₀ (c : Thread nD τ) none Set.univ (m := oM) (r := rx 0) (w := w) (Mk := Finset.univ) (hx := hx) (hm := hm) (k := k) (Q := Q)
    (f := outBuf a₀ a₁) (Finset.subset_univ _)
  rw [write_zero] at this
  exact this

theorem wp_store_out1 (c : Dev nD) (a₀ a₁ : FVec F S1x128x512 .f32) {hi} (w' : FVec F S1x128x512 .f32) {w : FVec F S1x128x512 .f32} (hw : w = w')
    {hx : (oM.access (Rect.unit (s := S2x128x512) ![1, 0, 0] S1x128x512.size hi)).Stores Finset.univ}
    {hm : (Finset.univ : Finset (Rect.unit (s := S2x128x512) ![1, 0, 0] S1x128x512.size hi).shape.Idx) = Finset.univ ∨ ∀ a, (Rect.unit (s := S2x128x512) ![1, 0, 0] S1x128x512.size hi).stride a = 1}
    {α : Type} {Q : α → sProp 𝕄} {k : PUnit → Prog (TpuEff nD τ sig (Elt F) Λ₀ .tc) α} :
    outs c a₀ a₁
      ⊢ iprop((outs c a₀ w' -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S2x128x512) ![1, 0, 0] S1x128x512.size hi) w Finset.univ hx hm) k) Q) := by
  subst hw
  have := wp_store (Γ := .empty) (defs := defs₀ (F := F)) 𝒱₀ (c : Thread nD τ) none Set.univ (m := oM) (r := rx 1) (w := w) (Mk := Finset.univ) (hx := hx) (hm := hm) (k := k) (Q := Q)
    (f := outBuf a₀ a₁) (Finset.subset_univ _)
  rw [write_one] at this
  exact this

/-! ## The printed offsets and devices, by peer -/

theorem off15_at (c : Dev nD) (j : Fin 7) {w : BitVec 32} (hw : BitVec.ofNat 32 (1 + j.val) = w) : k0_off15 c w = ![(peer c j).val] := by
  subst hw; exact k0_off15_eq c j
theorem off17_at (c : Dev nD) (j : Fin 7) {w : BitVec 32} (hw : BitVec.ofNat 32 (1 + j.val) = w) : k0_off17 c w = ![256 * (peer c j).val, 0] := by
  subst hw; exact k0_off17_eq c j
theorem off18_at (c : Dev nD) (j : Fin 7) {w : BitVec 32} (hw : BitVec.ofNat 32 (1 + j.val) = w) : k0_off18 c w = ![(peer c j).val, 0, 0, 0] := by
  subst hw; exact k0_off18_eq c j
theorem off19_at (c : Dev nD) (j : Fin 7) {w : BitVec 32} (hw : BitVec.ofNat 32 (1 + j.val) = w) : k0_off19 c w = ![(peer c j).val, 1, 0, 0] := by
  subst hw; exact k0_off19_eq c j

end Cert.Gather

end
-- ==== Proof.Body.lean ====
/-
# The body of the kernel, part by part
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 16 → ℕ)

set_option maxHeartbeats 800000 in
/-- The first five barrier signals. -/
theorem part1 (c : Dev nD) (f : CBuf F) {Q : (Σ' (_ : Dev nD) (_ : BitVec 32) (_ : Sems sig S_) (_ : BitVec 32), BitVec 32) → sProp 𝕄} :
    iprop(records m K ∗ ow c (OB c 7)
        ∗ dutyTok ER (barCell (peer c ((0 : Fin 7) : ℕ))) 0 c ∗ dutyTok ER (barCell (peer c ((1 : Fin 7) : ℕ))) 0 c ∗ dutyTok ER (barCell (peer c ((2 : Fin 7) : ℕ))) 0 c ∗ dutyTok ER (barCell (peer c ((3 : Fin 7) : ℕ))) 0 c ∗ dutyTok ER (barCell (peer c ((4 : Fin 7) : ℕ))) 0 c
        ∗ slotPts c (peer c ((0 : Fin 7) : ℕ)) fullShare f ∗ slotPts c (peer c ((1 : Fin 7) : ℕ)) fullShare f ∗ slotPts c (peer c ((2 : Fin 7) : ℕ)) fullShare f ∗ slotPts c (peer c ((3 : Fin 7) : ℕ)) fullShare f ∗ slotPts c (peer c ((4 : Fin 7) : ℕ)) fullShare f)
      ⊢ iprop((∀ v2 v24, ow c (OB c 2) -∗ Q ⟨c, v2, SemArray.scalar (sig.barrier 0 rfl), v24, 8#32⟩)
          -∗ wp frame (wpE (defs₀ (F := F)) 𝒱₀ (c : Thread nD τ) none) Set.univ
              (k0_part1 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2) Q) := by
  rw [k0_part1_eq_skeleton]; unfold k0_part1_skel
  simp only [semSignalWord, semWaitWord, Prog.lift, Prog.bind_op, Prog.bind_ret, Prog.pure_eq_ret, wp_deviceId]
  iintro ⟨#HR, HO, T0, T1, T2, T3, T4, S0, S1, S2, S3, S4⟩
  iintro Hk
  iapply (wp_signal_peer m K c _ 0 (Fin.ext (k0_dev1_eq c)) rfl (OB c 7) (OB c 6) rfl f) $$ [HO T0 S0]
  · iframe HR HO T0 S0
  iintro HO
  iapply (wp_signal_peer m K c _ 1 (Fin.ext (k0_dev2_eq c)) rfl (OB c 6) (OB c 5) rfl f) $$ [HO T1 S1]
  · iframe HR HO T1 S1
  iintro HO
  iapply (wp_signal_peer m K c _ 2 (Fin.ext (k0_dev3_eq c)) rfl (OB c 5) (OB c 4) rfl f) $$ [HO T2 S2]
  · iframe HR HO T2 S2
  iintro HO
  iapply (wp_signal_peer m K c _ 3 (Fin.ext (k0_dev4_eq c)) rfl (OB c 4) (OB c 3) rfl f) $$ [HO T3 S3]
  · iframe HR HO T3 S3
  iintro HO
  iapply (wp_signal_peer m K c _ 4 (Fin.ext (k0_dev5_eq c)) rfl (OB c 3) (OB c 2) rfl f) $$ [HO T4 S4]
  · iframe HR HO T4 S4
  iintro HO
  rw [wp_ret]; imodintro
  iapply Hk
  iexact HO

/-- The last two signals and the wait for all seven peers. -/
theorem part2 (c : Dev nD) (f : CBuf F) (v2 v24 c8 : BitVec 32) {Q : (Σ' (_ : IVec S128x128 32) (_ : IVec S128x128 32) (_ : BitVec 32) (_ : IVec S128x128 32), IVec S128x128 32) → sProp 𝕄} :
    iprop(records m K ∗ ow c (OB c 2) ∗ dutyTok ER (barCell (peer c ((5 : Fin 7) : ℕ))) 0 c ∗ dutyTok ER (barCell (peer c ((6 : Fin 7) : ℕ))) 0 c ∗ slotPts c (peer c ((5 : Fin 7) : ℕ)) fullShare f ∗ slotPts c (peer c ((6 : Fin 7) : ℕ)) fullShare f
        ∗ cred (tallyAt (barCell c) () 7) ∗ levAts L lv ∗ atPos ER (barCell c) 0 ∅ 0)
      ⊢ iprop(((ow c (OR c 7) ∗ atPos ER (barCell c) 1 ∅ 0 ∗ bigSep Finset.univ fun j : Fin 7 => barPay c (peer c j))
            -∗ Q ⟨k0_pay1, iota .tc S128x128 32 [1] iota_S128x128_d1_w32, 64#32, k0_pay2, k0_pay3⟩)
          -∗ wp frame (wpE (defs₀ (F := F)) 𝒱₀ (c : Thread nD τ) none) Set.univ
              (k0_part2 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 (SemArray.scalar (sig.barrier 0 rfl)) v24 c8) Q) := by
  rw [k0_part2_eq_skeleton]; unfold k0_part2_skel
  simp only [semSignalWord, semWaitWord, Prog.lift, Prog.bind_op, Prog.bind_ret, Prog.pure_eq_ret, wp_deviceId]
  iintro ⟨#HR, HO, T5, T6, S5, S6, Hc, #Hlev, Hat⟩
  iintro Hk
  iapply (wp_signal_peer m K c _ 5 (Fin.ext (k0_dev6_eq c)) rfl (OB c 2) (OB c 1) rfl f) $$ [HO T5 S5]
  · iframe HR HO T5 S5
  iintro HO
  iapply (wp_signal_peer m K c _ 6 (Fin.ext (k0_dev7_eq c)) rfl (OB c 1) (OB c 0) rfl f) $$ [HO T6 S6]
  · iframe HR HO T6 S6
  iintro HO
  iapply (wp_barrier m K c (by decide)) $$ [HO Hc Hat]
  · iframe HR HO Hc Hlev Hat
  iintro Hpost
  rw [wp_ret]; imodintro
  iapply Hk
  iexact Hpost

/-- The mask. -/
theorem part3 (c : Dev nD) (v2 : BitVec 32) {Q : (Σ' (_ : IVec S128x128 1), BitVec 32) → sProp 𝕄} :
    iprop(emp)
      ⊢ iprop((∀ v, Q ⟨maskV, v⟩)
          -∗ wp frame (wpE (defs₀ (F := F)) 𝒱₀ (c : Thread nD τ) none) Set.univ
              (k0_part3 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 v2 k0_pay1 (iota .tc S128x128 32 [1] iota_S128x128_d1_w32) 64#32 k0_pay2 k0_pay3) Q) := by
  rw [k0_part3_eq_skeleton]; unfold k0_part3_skel
  simp only [semSignalWord, semWaitWord, Prog.lift, Prog.bind_op, Prog.bind_ret, Prog.pure_eq_ret, wp_deviceId]
  iintro -
  iintro Hk
  rw [show k0_pay4 k0_pay1 (iota .tc S128x128 32 [1] iota_S128x128_d1_w32) 64#32 k0_pay2 k0_pay3 = maskV from rfl]
  rw [wp_ret]; imodintro
  iapply Hk

/-- Heads: blocks 0 to 1 of the own row are filled. -/
theorem part4 (c : Dev nD) (v2 : BitVec 32) {Q : (Σ' (_ : FVec F S512x256 .f32) (_ : FVec F S128x256 .f32) (_ : FVec F S128x64 .f32), FVec F S128x64 .f32) → sProp 𝕄} :
    iprop(inp m c ∗ fill m c 0)
      ⊢ iprop((inp m c ∗ fill m c 1 -∗ Q ⟨k0_pay5 (wqB m c), qBlk m c 0, (qHead (qBlk m c 0) 1), k0_pay9 (kB m c 0 1)⟩)
          -∗ wp frame (wpE (defs₀ (F := F)) 𝒱₀ (c : Thread nD τ) none) Set.univ
              (k0_part4 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 maskV) Q) := by
  rw [k0_part4_eq_skeleton]; unfold k0_part4_skel
  simp only [semSignalWord, semWaitWord, Prog.lift, Prog.bind_op, Prog.bind_ret, Prog.pure_eq_ret, wp_deviceId]
  iintro ⟨Hi, Hf⟩
  iintro Hk
  iapply (wp_load_wq m c (k0_off1_eq c)) $$ Hi; iintro Hi
  iapply (wp_load_x m c 0 rfl) $$ Hi; iintro Hi
  iapply (wp_load_k m c 0 0 rfl) $$ Hi; iintro Hi
  iapply (wp_load_v m c 0 0 rfl) $$ Hi; iintro Hi
  iapply (wp_load_dead m c _ (congrFun (k0_off2_eq c) 0)) $$ Hf; iintro %v2 Hf
  iapply (wp_store_head m c 0 0 (k0_off2_eq c) (by rfl)) $$ Hf; iintro Hf
  iapply (wp_load_k m c 0 1 rfl) $$ Hi; iintro Hi
  rw [show k0_pay6 (wqB m c) (xB m c 0) = qBlk m c 0 from rfl, show k0_pay8 (wqB m c) (xB m c 0) = qHead (qBlk m c 0) 1 from rfl]
  rw [wp_ret]; imodintro
  iapply Hk
  iframe Hi Hf

/-- Heads: blocks 1 to 2 of the own row are filled. -/
theorem part5 (c : Dev nD) (v2 : BitVec 32) {Q : (Σ' (_ : FVec F S128x64 .f32) (_ : FVec F S128x128 .f32), FVec F S128x128 .f32) → sProp 𝕄} :
    iprop(inp m c ∗ fill m c 1)
      ⊢ iprop((inp m c ∗ fill m c 2 -∗ Q ⟨k0_pay11 (vB m c 0 2), k0_pay12 maskV (qBlk m c 0) (kB m c 0 2), k0_pay13 maskV (qBlk m c 0) (kB m c 0 2)⟩)
          -∗ wp frame (wpE (defs₀ (F := F)) 𝒱₀ (c : Thread nD τ) none) Set.univ
              (k0_part5 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 maskV (qBlk m c 0) (qHead (qBlk m c 0) 1) (k0_pay9 (kB m c 0 1))) Q) := by
  rw [k0_part5_eq_skeleton]; unfold k0_part5_skel
  simp only [semSignalWord, semWaitWord, Prog.lift, Prog.bind_op, Prog.bind_ret, Prog.pure_eq_ret, wp_deviceId]
  iintro ⟨Hi, Hf⟩
  iintro Hk
  iapply (wp_load_v m c 0 1 rfl) $$ Hi; iintro Hi
  iapply (wp_load_dead m c _ (congrFun (k0_off3_eq c) 0)) $$ Hf; iintro %v3 Hf
  iapply (wp_store_head m c 0 1 (k0_off3_eq c) (by rfl)) $$ Hf; iintro Hf
  iapply (wp_load_k m c 0 2 rfl) $$ Hi; iintro Hi
  iapply (wp_load_v m c 0 2 rfl) $$ Hi; iintro Hi
  rw [wp_ret]; imodintro
  iapply Hk
  iframe Hi Hf

/-- Heads: blocks 2 to 3 of the own row are filled. -/
theorem part6 (c : Dev nD) (v2 : BitVec 32) {Q : FVec F S1x1x128x64 .bf16 → sProp 𝕄} :
    iprop(inp m c ∗ fill m c 2)
      ⊢ iprop((inp m c ∗ fill m c 3 -∗ Q (headAt m c 0 3))
          -∗ wp frame (wpE (defs₀ (F := F)) 𝒱₀ (c : Thread nD τ) none) Set.univ
              (k0_part6 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 maskV (qBlk m c 0) (k0_pay11 (vB m c 0 2)) (k0_pay12 maskV (qBlk m c 0) (kB m c 0 2)) (k0_pay13 maskV (qBlk m c 0) (kB m c 0 2))) Q) := by
  rw [k0_part6_eq_skeleton]; unfold k0_part6_skel
  simp only [semSignalWord, semWaitWord, Prog.lift, Prog.bind_op, Prog.bind_ret, Prog.pure_eq_ret, wp_deviceId]
  iintro ⟨Hi, Hf⟩
  iintro Hk
  iapply (wp_load_dead m c _ (congrFun (k0_off4_eq c) 0)) $$ Hf; iintro %v4 Hf
  iapply (wp_store_head m c 0 2 (k0_off4_eq c) (by rfl)) $$ Hf; iintro Hf
  iapply (wp_load_k m c 0 3 rfl) $$ Hi; iintro Hi
  iapply (wp_load_v m c 0 3 rfl) $$ Hi; iintro Hi
  iapply (wp_load_dead m c _ (congrFun (k0_off5_eq c) 0)) $$ Hf; iintro %v5 Hf
  rw [show k0_pay15 maskV (qBlk m c 0) (kB m c 0 3) (vB m c 0 3) = headAt m c 0 3 from rfl]
  rw [wp_ret]; imodintro
  iapply Hk
  iframe Hi Hf

/-- Heads: blocks 3 to 5 of the own row are filled. -/
theorem part7 (c : Dev nD) (v2 : BitVec 32) {Q : (Σ' (_ : FVec F S128x256 .f32) (_ : FVec F S128x64 .f32), FVec F S128x64 .f32) → sProp 𝕄} :
    iprop(inp m c ∗ fill m c 3)
      ⊢ iprop((inp m c ∗ fill m c 5 -∗ Q ⟨qBlk m c 1, (qHead (qBlk m c 1) 1), k0_pay9 (kB m c 1 1)⟩)
          -∗ wp frame (wpE (defs₀ (F := F)) 𝒱₀ (c : Thread nD τ) none) Set.univ
              (k0_part7 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 maskV (k0_pay5 (wqB m c)) (headAt m c 0 3)) Q) := by
  rw [k0_part7_eq_skeleton]; unfold k0_part7_skel
  simp only [semSignalWord, semWaitWord, Prog.lift, Prog.bind_op, Prog.bind_ret, Prog.pure_eq_ret, wp_deviceId]
  iintro ⟨Hi, Hf⟩
  iintro Hk
  iapply (wp_store_head m c 0 3 (k0_off5_eq c) (by rfl)) $$ Hf; iintro Hf
  iapply (wp_load_x m c 1 rfl) $$ Hi; iintro Hi
  iapply (wp_load_k m c 1 0 rfl) $$ Hi; iintro Hi
  iapply (wp_load_v m c 1 0 rfl) $$ Hi; iintro Hi
  iapply (wp_load_dead m c _ (congrFun (k0_off6_eq c) 0)) $$ Hf; iintro %v6 Hf
  iapply (wp_store_head m c 1 0 (k0_off6_eq c) (by rfl)) $$ Hf; iintro Hf
  iapply (wp_load_k m c 1 1 rfl) $$ Hi; iintro Hi
  rw [show k0_pay16 (k0_pay5 (wqB m c)) (xB m c 1) = qBlk m c 1 from rfl, show k0_pay18 (k0_pay5 (wqB m c)) (xB m c 1) = qHead (qBlk m c 1) 1 from rfl,
    show k0_pay19 (kB m c 1 1) = k0_pay9 (kB m c 1 1) from rfl]
  rw [wp_ret]; imodintro
  iapply Hk
  iframe Hi Hf

/-- Heads: blocks 5 to 6 of the own row are filled. -/
theorem part8 (c : Dev nD) (v2 : BitVec 32) {Q : (Σ' (_ : FVec F S128x64 .f32), FVec F S128x128 .f32) → sProp 𝕄} :
    iprop(inp m c ∗ fill m c 5)
      ⊢ iprop((inp m c ∗ fill m c 6 -∗ Q ⟨k0_pay21 (vB m c 1 2), k0_pay22 maskV (qBlk m c 1) (kB m c 1 2)⟩)
          -∗ wp frame (wpE (defs₀ (F := F)) 𝒱₀ (c : Thread nD τ) none) Set.univ
              (k0_part8 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 maskV (qBlk m c 1) (qHead (qBlk m c 1) 1) (k0_pay9 (kB m c 1 1))) Q) := by
  rw [k0_part8_eq_skeleton]; unfold k0_part8_skel
  simp only [semSignalWord, semWaitWord, Prog.lift, Prog.bind_op, Prog.bind_ret, Prog.pure_eq_ret, wp_deviceId]
  iintro ⟨Hi, Hf⟩
  iintro Hk
  iapply (wp_load_v m c 1 1 rfl) $$ Hi; iintro Hi
  iapply (wp_load_dead m c _ (congrFun (k0_off7_eq c) 0)) $$ Hf; iintro %v7 Hf
  iapply (wp_store_head m c 1 1 (k0_off7_eq c) (by rfl)) $$ Hf; iintro Hf
  iapply (wp_load_k m c 1 2 rfl) $$ Hi; iintro Hi
  iapply (wp_load_v m c 1 2 rfl) $$ Hi; iintro Hi
  rw [wp_ret]; imodintro
  iapply Hk
  iframe Hi Hf

/-- Heads: blocks 6 to 8 of the own row are filled. -/
theorem part9 (c : Dev nD) (v2 : BitVec 32) {Q : PUnit → sProp 𝕄} :
    iprop(inp m c ∗ fill m c 6)
      ⊢ iprop((inp m c ∗ fill m c 8 -∗ Q ⟨⟩)
          -∗ wp frame (wpE (defs₀ (F := F)) 𝒱₀ (c : Thread nD τ) none) Set.univ
              (k0_part9 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 maskV (qBlk m c 1) (k0_pay21 (vB m c 1 2)) (k0_pay22 maskV (qBlk m c 1) (kB m c 1 2))) Q) := by
  rw [k0_part9_eq_skeleton]; unfold k0_part9_skel
  simp only [semSignalWord, semWaitWord, Prog.lift, Prog.bind_op, Prog.bind_ret, Prog.pure_eq_ret, wp_deviceId]
  iintro ⟨Hi, Hf⟩
  iintro Hk
  iapply (wp_load_dead m c _ (congrFun (k0_off8_eq c) 0)) $$ Hf; iintro %v8 Hf
  iapply (wp_store_head m c 1 2 (k0_off8_eq c) (by rfl)) $$ Hf; iintro Hf
  iapply (wp_load_k m c 1 3 rfl) $$ Hi; iintro Hi
  iapply (wp_load_v m c 1 3 rfl) $$ Hi; iintro Hi
  iapply (wp_load_dead m c _ (congrFun (k0_off9_eq c) 0)) $$ Hf; iintro %v9 Hf
  iapply (wp_store_head m c 1 3 (k0_off9_eq c) (by rfl)) $$ Hf; iintro Hf
  rw [wp_ret]; imodintro
  iapply Hk
  iframe Hi Hf

/-- The copies to peers 0, 1 start. -/
theorem part10 (c : Dev nD) (f0 f1 : CBuf F) (v2 : BitVec 32) {Q : PUnit → sProp 𝕄} :
    iprop(records m K ∗ ow c (OR c 7)
        ∗ slotPts c c (Transfers.shareTokN fullShare ((0 : Fin 7) : ℕ)) (gath m) ∗ slotPts (peer c ((0 : Fin 7) : ℕ)) c fullShare f0 ∗ dutyTok ER (sendCell c 0) 0 c ∗ dutyTok ER (recvCell (peer c ((0 : Fin 7) : ℕ)) c) 0 c
        ∗ slotPts c c (Transfers.shareTokN fullShare ((1 : Fin 7) : ℕ)) (gath m) ∗ slotPts (peer c ((1 : Fin 7) : ℕ)) c fullShare f1 ∗ dutyTok ER (sendCell c 1) 0 c ∗ dutyTok ER (recvCell (peer c ((1 : Fin 7) : ℕ)) c) 0 c)
      ⊢ iprop(((ow c (OR c 5) ∗ cred (tallyAt (sendCell c 0) () N) ∗ cred (tallyAt (sendCell c 1) () N)) -∗ Q ⟨⟩)
          -∗ wp frame (wpE (defs₀ (F := F)) 𝒱₀ (c : Thread nD τ) none) Set.univ
              (k0_part10 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2) Q) := by
  rw [k0_part10_eq_skeleton]; unfold k0_part10_skel
  simp only [semSignalWord, semWaitWord, Prog.lift, Prog.bind_op, Prog.bind_ret, Prog.pure_eq_ret, wp_deviceId]
  iintro ⟨#HR, HO, S0, D0, T0, U0, S1, D1, T1, U1⟩
  iintro Hk
  iapply (wp_send_peer m K c _ 0 (Fin.ext (k0_dev8_eq c)) rfl (k0_off10_eq c) (k0_off11_eq c) (OR c 7) (OR c 6) rfl f0) $$ [HO S0 D0 T0 U0]
  · iframe HR HO S0 D0 T0 U0
  iintro ⟨C0, HO⟩
  iapply (wp_send_peer m K c _ 1 (Fin.ext (k0_dev9_eq c)) rfl (k0_off10_eq c) (k0_off11_eq c) (OR c 6) (OR c 5) rfl f1) $$ [HO S1 D1 T1 U1]
  · iframe HR HO S1 D1 T1 U1
  iintro ⟨C1, HO⟩
  rw [wp_ret]; imodintro
  iapply Hk
  iframe HO C0 C1

/-- The copies to peers 2, 3, 4 start. -/
theorem part11 (c : Dev nD) (f2 f3 f4 : CBuf F) (v2 : BitVec 32) {Q : PUnit → sProp 𝕄} :
    iprop(records m K ∗ ow c (OR c 5)
        ∗ slotPts c c (Transfers.shareTokN fullShare ((2 : Fin 7) : ℕ)) (gath m) ∗ slotPts (peer c ((2 : Fin 7) : ℕ)) c fullShare f2 ∗ dutyTok ER (sendCell c 2) 0 c ∗ dutyTok ER (recvCell (peer c ((2 : Fin 7) : ℕ)) c) 0 c
        ∗ slotPts c c (Transfers.shareTokN fullShare ((3 : Fin 7) : ℕ)) (gath m) ∗ slotPts (peer c ((3 : Fin 7) : ℕ)) c fullShare f3 ∗ dutyTok ER (sendCell c 3) 0 c ∗ dutyTok ER (recvCell (peer c ((3 : Fin 7) : ℕ)) c) 0 c
        ∗ slotPts c c (Transfers.shareTokN fullShare ((4 : Fin 7) : ℕ)) (gath m) ∗ slotPts (peer c ((4 : Fin 7) : ℕ)) c fullShare f4 ∗ dutyTok ER (sendCell c 4) 0 c ∗ dutyTok ER (recvCell (peer c ((4 : Fin 7) : ℕ)) c) 0 c)
      ⊢ iprop(((ow c (OR c 2) ∗ cred (tallyAt (sendCell c 2) () N) ∗ cred (tallyAt (sendCell c 3) () N) ∗ cred (tallyAt (sendCell c 4) () N)) -∗ Q ⟨⟩)
          -∗ wp frame (wpE (defs₀ (F := F)) 𝒱₀ (c : Thread nD τ) none) Set.univ
              (k0_part11 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2) Q) := by
  rw [k0_part11_eq_skeleton]; unfold k0_part11_skel
  simp only [semSignalWord, semWaitWord, Prog.lift, Prog.bind_op, Prog.bind_ret, Prog.pure_eq_ret, wp_deviceId]
  iintro ⟨#HR, HO, S2, D2, T2, U2, S3, D3, T3, U3, S4, D4, T4, U4⟩
  iintro Hk
  iapply (wp_send_peer m K c _ 2 (Fin.ext (k0_dev10_eq c)) rfl (k0_off10_eq c) (k0_off11_eq c) (OR c 5) (OR c 4) rfl f2) $$ [HO S2 D2 T2 U2]
  · iframe HR HO S2 D2 T2 U2
  iintro ⟨C2, HO⟩
  iapply (wp_send_peer m K c _ 3 (Fin.ext (k0_dev11_eq c)) rfl (k0_off10_eq c) (k0_off11_eq c) (OR c 4) (OR c 3) rfl f3) $$ [HO S3 D3 T3 U3]
  · iframe HR HO S3 D3 T3 U3
  iintro ⟨C3, HO⟩
  iapply (wp_send_peer m K c _ 4 (Fin.ext (k0_dev12_eq c)) rfl (k0_off10_eq c) (k0_off11_eq c) (OR c 3) (OR c 2) rfl f4) $$ [HO S4 D4 T4 U4]
  · iframe HR HO S4 D4 T4 U4
  iintro ⟨C4, HO⟩
  rw [wp_ret]; imodintro
  iapply Hk
  iframe HO C2 C3 C4

/-- The copies to peers 5, 6 start. -/
theorem part12 (c : Dev nD) (f5 f6 : CBuf F) (v2 v106 : BitVec 32) {Q : (Σ' (_ : FVec F S256x512 .f32) (_ : FVec F S128x256 .f32), FVec F S128x512 .f32) → sProp 𝕄} :
    iprop(records m K ∗ ow c (OR c 2) ∗ inp m c ∗ slotPts c c (Transfers.shareDrop fullShare 7) (gath m)
        ∗ slotPts c c (Transfers.shareTokN fullShare ((5 : Fin 7) : ℕ)) (gath m) ∗ slotPts (peer c ((5 : Fin 7) : ℕ)) c fullShare f5 ∗ dutyTok ER (sendCell c 5) 0 c ∗ dutyTok ER (recvCell (peer c ((5 : Fin 7) : ℕ)) c) 0 c
        ∗ slotPts c c (Transfers.shareTokN fullShare ((6 : Fin 7) : ℕ)) (gath m) ∗ slotPts (peer c ((6 : Fin 7) : ℕ)) c fullShare f6 ∗ dutyTok ER (sendCell c 6) 0 c ∗ dutyTok ER (recvCell (peer c ((6 : Fin 7) : ℕ)) c) 0 c)
      ⊢ iprop(((ow c (OR c 0) ∗ inp m c ∗ slotPts c c (Transfers.shareDrop fullShare 7) (gath m) ∗ cred (tallyAt (sendCell c 5) () N) ∗ cred (tallyAt (sendCell c 6) () N)) -∗ Q ⟨k0_pay25 (woBlk m c c), k0_pay26 (ctx m c 0), constant S128x512 .f32 0x00000000#32⟩)
          -∗ wp frame (wpE (defs₀ (F := F)) 𝒱₀ (c : Thread nD τ) none) Set.univ
              (k0_part12 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 v106) Q) := by
  rw [k0_part12_eq_skeleton]; unfold k0_part12_skel
  simp only [semSignalWord, semWaitWord, Prog.lift, Prog.bind_op, Prog.bind_ret, Prog.pure_eq_ret, wp_deviceId]
  iintro ⟨#HR, HO, Hi, Hr, S5, D5, T5, U5, S6, D6, T6, U6⟩
  iintro Hk
  iapply (wp_send_peer m K c _ 5 (Fin.ext (k0_dev13_eq c)) rfl (k0_off10_eq c) (k0_off11_eq c) (OR c 2) (OR c 1) rfl f5) $$ [HO S5 D5 T5 U5]
  · iframe HR HO S5 D5 T5 U5
  iintro ⟨C5, HO⟩
  iapply (wp_send_peer m K c _ 6 (Fin.ext (k0_dev14_eq c)) rfl (k0_off10_eq c) (k0_off11_eq c) (OR c 1) (OR c 0) rfl f6) $$ [HO S6 D6 T6 U6]
  · iframe HR HO S6 D6 T6 U6
  iintro ⟨C6, HO⟩
  iapply (wp_load_wo m c c (k0_off12_eq c)) $$ Hi; iintro Hi
  iapply (wp_load_row m c c 0 _ (k0_off13_eq c)) $$ Hr; iintro Hr
  rw [wp_ret]; imodintro
  iapply Hk
  iframe HO Hi Hr C5 C6

/-- The own block of the output; the wait for the first peer's row. -/
theorem part13 (c : Dev nD) (a₀ a₁ : FVec F S1x128x512 .f32) (v2 : BitVec 32) {Q : (Σ' (_ : BitVec 32) (_ : FVec F S256x512 .f32), FVec F S128x256 .f32) → sProp 𝕄} :
    iprop(records m K ∗ inp m c ∗ slotPts c c (Transfers.shareDrop fullShare 7) (gath m) ∗ ow c 0 ∗ outs c a₀ a₁ ∗ cred (tallyAt (recvCell c (peer c ((0 : Fin 7) : ℕ))) () N) ∗ atPos ER (recvCell c (peer c ((0 : Fin 7) : ℕ))) 0 ∅ 0)
      ⊢ iprop((∀ v, (inp m c ∗ slotPts c c (Transfers.shareDrop fullShare 7) (gath m) ∗ ow c 0 ∗ outs c (acc m c 0 0) (acc m c 1 0) ∗ atPos ER (recvCell c (peer c ((0 : Fin 7) : ℕ))) 1 ∅ 0 ∗ slotPts c (peer c ((0 : Fin 7) : ℕ)) fullShare (gath m)) -∗ Q ⟨v, k0_pay29 (woBlk m c (peer c ((0 : Fin 7) : ℕ))), k0_pay30 (ctx m (peer c ((0 : Fin 7) : ℕ)) 0)⟩)
          -∗ wp frame (wpE (defs₀ (F := F)) 𝒱₀ (c : Thread nD τ) none) Set.univ
              (k0_part13 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 (k0_pay25 (woBlk m c c)) (k0_pay26 (ctx m c 0)) (constant S128x512 .f32 0x00000000#32)) Q) := by
  rw [k0_part13_eq_skeleton]; unfold k0_part13_skel
  simp only [semSignalWord, semWaitWord, Prog.lift, Prog.bind_op, Prog.bind_ret, Prog.pure_eq_ret, wp_deviceId]
  iintro ⟨#HR, Hi, Hr, HO, Ho, C0, A0⟩
  iintro Hk
  iapply (wp_load_out0 c _ _) $$ Ho; iintro Ho
  iapply (wp_store_out0 c _ _ (acc m c 0 0) (by rfl)) $$ Ho; iintro Ho
  iapply (wp_load_row m c c 1 _ (k0_off14_eq c)) $$ Hr; iintro Hr
  iapply (wp_load_out1 c _ _) $$ Ho; iintro Ho
  iapply (wp_store_out1 c _ _ (acc m c 1 0) (by rfl)) $$ Ho; iintro Ho
  iapply (wp_recv_peer m K c 0 (off15_at c 0 rfl)) $$ [HO C0 A0]
  · iframe HR HO C0 A0
  iintro ⟨HO, A0, S0⟩
  iapply (wp_load_wo m c (peer c ((0 : Fin 7) : ℕ)) (off17_at c 0 rfl)) $$ Hi; iintro Hi
  iapply (wp_load_row m c (peer c ((0 : Fin 7) : ℕ)) 0 fullShare (off18_at c 0 rfl)) $$ S0; iintro S0
  rw [wp_ret]; imodintro
  iapply Hk
  iframe Hi Hr HO Ho A0 S0

/-- Peer 0's block; the wait for peer 1's row. -/
theorem part14 (c : Dev nD) (v2 v420 : BitVec 32) {Q : (Σ' (_ : BitVec 32), BitVec 32) → sProp 𝕄} :
    iprop(records m K ∗ inp m c ∗ ow c 0 ∗ outs c (acc m c 0 0) (acc m c 1 0) ∗ slotPts c (peer c ((0 : Fin 7) : ℕ)) fullShare (gath m)
        ∗ cred (tallyAt (recvCell c (peer c ((1 : Fin 7) : ℕ))) () N) ∗ atPos ER (recvCell c (peer c ((1 : Fin 7) : ℕ))) 0 ∅ 0)
      ⊢ iprop((∀ v' v'', (inp m c ∗ ow c 0 ∗ outs c (acc m c 0 1) (acc m c 1 1) ∗ slotPts c (peer c ((0 : Fin 7) : ℕ)) fullShare (gath m)
            ∗ atPos ER (recvCell c (peer c ((1 : Fin 7) : ℕ))) 1 ∅ 0 ∗ slotPts c (peer c ((1 : Fin 7) : ℕ)) fullShare (gath m)) -∗ Q ⟨v', v''⟩)
          -∗ wp frame (wpE (defs₀ (F := F)) 𝒱₀ (c : Thread nD τ) none) Set.univ
              (k0_part14 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 v420 (k0_pay29 (woBlk m c (peer c ((0 : Fin 7) : ℕ)))) (k0_pay30 (ctx m (peer c ((0 : Fin 7) : ℕ)) 0))) Q) := by
  rw [k0_part14_eq_skeleton]; unfold k0_part14_skel
  simp only [semSignalWord, semWaitWord, Prog.lift, Prog.bind_op, Prog.bind_ret, Prog.pure_eq_ret, wp_deviceId]
  iintro ⟨#HR, Hi, HO, Ho, S0, C1, A1⟩
  iintro Hk
  iapply (wp_load_out0 c _ _) $$ Ho; iintro Ho
  iapply (wp_load_out0 c _ _) $$ Ho; iintro Ho
  iapply (wp_store_out0 c _ _ (acc m c 0 1) (by rfl)) $$ Ho; iintro Ho
  iapply (wp_load_row m c (peer c ((0 : Fin 7) : ℕ)) 1 fullShare (off19_at c 0 rfl)) $$ S0; iintro S0
  iapply (wp_load_out1 c _ _) $$ Ho; iintro Ho
  iapply (wp_load_out1 c _ _) $$ Ho; iintro Ho
  iapply (wp_store_out1 c _ _ (acc m c 1 1) (by rfl)) $$ Ho; iintro Ho
  iapply (wp_recv_peer m K c 1 (off15_at c 1 rfl)) $$ [HO C1 A1]
  · iframe HR HO C1 A1
  iintro ⟨HO, A1, S1⟩
  rw [wp_ret]; imodintro
  iapply Hk
  iframe Hi HO Ho S0 A1 S1

/-- Peer 1's block. -/
theorem part15 (c : Dev nD) (v2 v456 v465 : BitVec 32) {Q : BitVec 32 → sProp 𝕄} :
    iprop(records m K ∗ inp m c ∗ outs c (acc m c 0 1) (acc m c 1 1) ∗ slotPts c (peer c ((1 : Fin 7) : ℕ)) fullShare (gath m))
      ⊢ iprop((∀ v', (inp m c ∗ outs c (acc m c 0 2) (acc m c 1 2) ∗ slotPts c (peer c ((1 : Fin 7) : ℕ)) fullShare (gath m)) -∗ Q v')
          -∗ wp frame (wpE (defs₀ (F := F)) 𝒱₀ (c : Thread nD τ) none) Set.univ
              (k0_part15 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 v456 v465) Q) := by
  rw [k0_part15_eq_skeleton]; unfold k0_part15_skel
  simp only [semSignalWord, semWaitWord, Prog.lift, Prog.bind_op, Prog.bind_ret, Prog.pure_eq_ret, wp_deviceId]
  iintro ⟨#HR, Hi, Ho, S1⟩
  iintro Hk
  iapply (wp_load_wo m c (peer c ((1 : Fin 7) : ℕ)) (off17_at c 1 rfl)) $$ Hi; iintro Hi
  iapply (wp_load_row m c (peer c ((1 : Fin 7) : ℕ)) 0 fullShare (off18_at c 1 rfl)) $$ S1; iintro S1
  iapply (wp_load_out0 c _ _) $$ Ho; iintro Ho
  iapply (wp_load_out0 c _ _) $$ Ho; iintro Ho
  iapply (wp_store_out0 c _ _ (acc m c 0 2) (by rfl)) $$ Ho; iintro Ho
  iapply (wp_load_row m c (peer c ((1 : Fin 7) : ℕ)) 1 fullShare (off19_at c 1 rfl)) $$ S1; iintro S1
  iapply (wp_load_out1 c _ _) $$ Ho; iintro Ho
  iapply (wp_load_out1 c _ _) $$ Ho; iintro Ho
  iapply (wp_store_out1 c _ _ (acc m c 1 2) (by rfl)) $$ Ho; iintro Ho
  rw [wp_ret]; imodintro
  iapply Hk
  iframe Hi Ho S1

/-- Peer 2's row and block. -/
theorem part16 (c : Dev nD) (v492 : BitVec 32) {Q : PUnit → sProp 𝕄} :
    iprop(records m K ∗ inp m c ∗ ow c 0 ∗ outs c (acc m c 0 2) (acc m c 1 2)
        ∗ cred (tallyAt (recvCell c (peer c ((2 : Fin 7) : ℕ))) () N) ∗ atPos ER (recvCell c (peer c ((2 : Fin 7) : ℕ))) 0 ∅ 0)
      ⊢ iprop(((inp m c ∗ ow c 0 ∗ outs c (acc m c 0 3) (acc m c 1 3)
            ∗ atPos ER (recvCell c (peer c ((2 : Fin 7) : ℕ))) 1 ∅ 0 ∗ slotPts c (peer c ((2 : Fin 7) : ℕ)) fullShare (gath m)) -∗ Q ⟨⟩)
          -∗ wp frame (wpE (defs₀ (F := F)) 𝒱₀ (c : Thread nD τ) none) Set.univ
              (k0_part16 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v492) Q) := by
  rw [k0_part16_eq_skeleton]; unfold k0_part16_skel
  simp only [semSignalWord, semWaitWord, Prog.lift, Prog.bind_op, Prog.bind_ret, Prog.pure_eq_ret, wp_deviceId]
  iintro ⟨#HR, Hi, HO, Ho, C2, A2⟩
  iintro Hk
  iapply (wp_recv_peer m K c 2 (off15_at c 2 rfl)) $$ [HO C2 A2]
  · iframe HR HO C2 A2
  iintro ⟨HO, A2, S2⟩
  iapply (wp_load_wo m c (peer c ((2 : Fin 7) : ℕ)) (off17_at c 2 rfl)) $$ Hi; iintro Hi
  iapply (wp_load_row m c (peer c ((2 : Fin 7) : ℕ)) 0 fullShare (off18_at c 2 rfl)) $$ S2; iintro S2
  iapply (wp_load_out0 c _ _) $$ Ho; iintro Ho
  iapply (wp_load_out0 c _ _) $$ Ho; iintro Ho
  iapply (wp_store_out0 c _ _ (acc m c 0 3) (by rfl)) $$ Ho; iintro Ho
  iapply (wp_load_row m c (peer c ((2 : Fin 7) : ℕ)) 1 fullShare (off19_at c 2 rfl)) $$ S2; iintro S2
  iapply (wp_load_out1 c _ _) $$ Ho; iintro Ho
  iapply (wp_load_out1 c _ _) $$ Ho; iintro Ho
  iapply (wp_store_out1 c _ _ (acc m c 1 3) (by rfl)) $$ Ho; iintro Ho
  rw [wp_ret]; imodintro
  iapply Hk
  iframe Hi HO Ho A2 S2

/-- Peer 3's row, and its block of batch 0. -/
theorem part17 (c : Dev nD) (v2 : BitVec 32) {Q : (Σ' (_ : FVec F S256x512 .f32), FVec F S128x256 .f32) → sProp 𝕄} :
    iprop(records m K ∗ inp m c ∗ ow c 0 ∗ outs c (acc m c 0 3) (acc m c 1 3)
        ∗ cred (tallyAt (recvCell c (peer c ((3 : Fin 7) : ℕ))) () N) ∗ atPos ER (recvCell c (peer c ((3 : Fin 7) : ℕ))) 0 ∅ 0)
      ⊢ iprop(((inp m c ∗ ow c 0 ∗ outs c (acc m c 0 4) (acc m c 1 3)
            ∗ atPos ER (recvCell c (peer c ((3 : Fin 7) : ℕ))) 1 ∅ 0 ∗ slotPts c (peer c ((3 : Fin 7) : ℕ)) fullShare (gath m)) -∗ Q ⟨k0_pay39 (woBlk m c (peer c ((3 : Fin 7) : ℕ))), k0_pay41 (ctx m (peer c ((3 : Fin 7) : ℕ)) 1)⟩)
          -∗ wp frame (wpE (defs₀ (F := F)) 𝒱₀ (c : Thread nD τ) none) Set.univ
              (k0_part17 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2) Q) := by
  rw [k0_part17_eq_skeleton]; unfold k0_part17_skel
  simp only [semSignalWord, semWaitWord, Prog.lift, Prog.bind_op, Prog.bind_ret, Prog.pure_eq_ret, wp_deviceId]
  iintro ⟨#HR, Hi, HO, Ho, C3, A3⟩
  iintro Hk
  iapply (wp_recv_peer m K c 3 (off15_at c 3 rfl)) $$ [HO C3 A3]
  · iframe HR HO C3 A3
  iintro ⟨HO, A3, S3⟩
  iapply (wp_load_wo m c (peer c ((3 : Fin 7) : ℕ)) (off17_at c 3 rfl)) $$ Hi; iintro Hi
  iapply (wp_load_row m c (peer c ((3 : Fin 7) : ℕ)) 0 fullShare (off18_at c 3 rfl)) $$ S3; iintro S3
  iapply (wp_load_out0 c _ _) $$ Ho; iintro Ho
  iapply (wp_load_out0 c _ _) $$ Ho; iintro Ho
  iapply (wp_store_out0 c _ _ (acc m c 0 4) (by rfl)) $$ Ho; iintro Ho
  iapply (wp_load_row m c (peer c ((3 : Fin 7) : ℕ)) 1 fullShare (off19_at c 3 rfl)) $$ S3; iintro S3
  rw [wp_ret]; imodintro
  iapply Hk
  iframe Hi HO Ho A3 S3

/-- Peer 3's block of batch 1; peer 4's row. -/
theorem part18 (c : Dev nD) (v2 : BitVec 32) {Q : (Σ' (_ : BitVec 32) (_ : FVec F S256x512 .f32), FVec F S128x512 .f32) → sProp 𝕄} :
    iprop(records m K ∗ inp m c ∗ ow c 0 ∗ outs c (acc m c 0 4) (acc m c 1 3)
        ∗ cred (tallyAt (recvCell c (peer c ((4 : Fin 7) : ℕ))) () N) ∗ atPos ER (recvCell c (peer c ((4 : Fin 7) : ℕ))) 0 ∅ 0)
      ⊢ iprop((∀ v', (inp m c ∗ ow c 0 ∗ outs c (acc m c 0 4) (acc m c 1 4)
            ∗ atPos ER (recvCell c (peer c ((4 : Fin 7) : ℕ))) 1 ∅ 0 ∗ slotPts c (peer c ((4 : Fin 7) : ℕ)) fullShare (gath m)) -∗ Q ⟨v', k0_pay43 (woBlk m c (peer c ((4 : Fin 7) : ℕ))), k0_pay44 (woBlk m c (peer c ((4 : Fin 7) : ℕ))) (ctx m (peer c ((4 : Fin 7) : ℕ)) 0) (acc m c 0 4)⟩)
          -∗ wp frame (wpE (defs₀ (F := F)) 𝒱₀ (c : Thread nD τ) none) Set.univ
              (k0_part18 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 (k0_pay39 (woBlk m c (peer c ((3 : Fin 7) : ℕ)))) (k0_pay41 (ctx m (peer c ((3 : Fin 7) : ℕ)) 1))) Q) := by
  rw [k0_part18_eq_skeleton]; unfold k0_part18_skel
  simp only [semSignalWord, semWaitWord, Prog.lift, Prog.bind_op, Prog.bind_ret, Prog.pure_eq_ret, wp_deviceId]
  iintro ⟨#HR, Hi, HO, Ho, C4, A4⟩
  iintro Hk
  iapply (wp_load_out1 c _ _) $$ Ho; iintro Ho
  iapply (wp_load_out1 c _ _) $$ Ho; iintro Ho
  iapply (wp_store_out1 c _ _ (acc m c 1 4) (by rfl)) $$ Ho; iintro Ho
  iapply (wp_recv_peer m K c 4 (off15_at c 4 rfl)) $$ [HO C4 A4]
  · iframe HR HO C4 A4
  iintro ⟨HO, A4, S4⟩
  iapply (wp_load_wo m c (peer c ((4 : Fin 7) : ℕ)) (off17_at c 4 rfl)) $$ Hi; iintro Hi
  iapply (wp_load_row m c (peer c ((4 : Fin 7) : ℕ)) 0 fullShare (off18_at c 4 rfl)) $$ S4; iintro S4
  iapply (wp_load_out0 c _ _) $$ Ho; iintro Ho
  iapply (wp_load_out0 c _ _) $$ Ho; iintro Ho
  rw [wp_ret]; imodintro
  iapply Hk
  iframe Hi HO Ho A4 S4

/-- Peer 4's block; peer 5's row. -/
theorem part19 (c : Dev nD) (v2 v564 : BitVec 32) {Q : (Σ' (_ : BitVec 32) (_ : FVec F S256x512 .f32), FVec F S128x256 .f32) → sProp 𝕄} :
    iprop(records m K ∗ inp m c ∗ ow c 0 ∗ outs c (acc m c 0 4) (acc m c 1 4) ∗ slotPts c (peer c ((4 : Fin 7) : ℕ)) fullShare (gath m)
        ∗ cred (tallyAt (recvCell c (peer c ((5 : Fin 7) : ℕ))) () N) ∗ atPos ER (recvCell c (peer c ((5 : Fin 7) : ℕ))) 0 ∅ 0)
      ⊢ iprop((∀ v', (inp m c ∗ ow c 0 ∗ outs c (acc m c 0 5) (acc m c 1 5) ∗ slotPts c (peer c ((4 : Fin 7) : ℕ)) fullShare (gath m)
            ∗ atPos ER (recvCell c (peer c ((5 : Fin 7) : ℕ))) 1 ∅ 0 ∗ slotPts c (peer c ((5 : Fin 7) : ℕ)) fullShare (gath m)) -∗ Q ⟨v', k0_pay47 (woBlk m c (peer c ((5 : Fin 7) : ℕ))), k0_pay48 (ctx m (peer c ((5 : Fin 7) : ℕ)) 0)⟩)
          -∗ wp frame (wpE (defs₀ (F := F)) 𝒱₀ (c : Thread nD τ) none) Set.univ
              (k0_part19 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 v564 (k0_pay43 (woBlk m c (peer c ((4 : Fin 7) : ℕ)))) (k0_pay44 (woBlk m c (peer c ((4 : Fin 7) : ℕ))) (ctx m (peer c ((4 : Fin 7) : ℕ)) 0) (acc m c 0 4))) Q) := by
  rw [k0_part19_eq_skeleton]; unfold k0_part19_skel
  simp only [semSignalWord, semWaitWord, Prog.lift, Prog.bind_op, Prog.bind_ret, Prog.pure_eq_ret, wp_deviceId]
  iintro ⟨#HR, Hi, HO, Ho, S4, C5, A5⟩
  iintro Hk
  iapply (wp_store_out0 c _ _ (acc m c 0 5) (by rfl)) $$ Ho; iintro Ho
  iapply (wp_load_row m c (peer c ((4 : Fin 7) : ℕ)) 1 fullShare (off19_at c 4 rfl)) $$ S4; iintro S4
  iapply (wp_load_out1 c _ _) $$ Ho; iintro Ho
  iapply (wp_load_out1 c _ _) $$ Ho; iintro Ho
  iapply (wp_store_out1 c _ _ (acc m c 1 5) (by rfl)) $$ Ho; iintro Ho
  iapply (wp_recv_peer m K c 5 (off15_at c 5 rfl)) $$ [HO C5 A5]
  · iframe HR HO C5 A5
  iintro ⟨HO, A5, S5⟩
  iapply (wp_load_wo m c (peer c ((5 : Fin 7) : ℕ)) (off17_at c 5 rfl)) $$ Hi; iintro Hi
  iapply (wp_load_row m c (peer c ((5 : Fin 7) : ℕ)) 0 fullShare (off18_at c 5 rfl)) $$ S5; iintro S5
  rw [wp_ret]; imodintro
  iapply Hk
  iframe Hi HO Ho S4 A5 S5

/-- Peer 5's block; peer 6's row. -/
theorem part20 (c : Dev nD) (v2 v600 : BitVec 32) {Q : (Σ' (_ : BitVec 32), BitVec 32) → sProp 𝕄} :
    iprop(records m K ∗ inp m c ∗ ow c 0 ∗ outs c (acc m c 0 5) (acc m c 1 5) ∗ slotPts c (peer c ((5 : Fin 7) : ℕ)) fullShare (gath m)
        ∗ cred (tallyAt (recvCell c (peer c ((6 : Fin 7) : ℕ))) () N) ∗ atPos ER (recvCell c (peer c ((6 : Fin 7) : ℕ))) 0 ∅ 0)
      ⊢ iprop((∀ v' v'', (inp m c ∗ ow c 0 ∗ outs c (acc m c 0 6) (acc m c 1 6) ∗ slotPts c (peer c ((5 : Fin 7) : ℕ)) fullShare (gath m)
            ∗ atPos ER (recvCell c (peer c ((6 : Fin 7) : ℕ))) 1 ∅ 0 ∗ slotPts c (peer c ((6 : Fin 7) : ℕ)) fullShare (gath m)) -∗ Q ⟨v', v''⟩)
          -∗ wp frame (wpE (defs₀ (F := F)) 𝒱₀ (c : Thread nD τ) none) Set.univ
              (k0_part20 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v2 v600 (k0_pay47 (woBlk m c (peer c ((5 : Fin 7) : ℕ)))) (k0_pay48 (ctx m (peer c ((5 : Fin 7) : ℕ)) 0))) Q) := by
  rw [k0_part20_eq_skeleton]; unfold k0_part20_skel
  simp only [semSignalWord, semWaitWord, Prog.lift, Prog.bind_op, Prog.bind_ret, Prog.pure_eq_ret, wp_deviceId]
  iintro ⟨#HR, Hi, HO, Ho, S5, C6, A6⟩
  iintro Hk
  iapply (wp_load_out0 c _ _) $$ Ho; iintro Ho
  iapply (wp_load_out0 c _ _) $$ Ho; iintro Ho
  iapply (wp_store_out0 c _ _ (acc m c 0 6) (by rfl)) $$ Ho; iintro Ho
  iapply (wp_load_row m c (peer c ((5 : Fin 7) : ℕ)) 1 fullShare (off19_at c 5 rfl)) $$ S5; iintro S5
  iapply (wp_load_out1 c _ _) $$ Ho; iintro Ho
  iapply (wp_load_out1 c _ _) $$ Ho; iintro Ho
  iapply (wp_store_out1 c _ _ (acc m c 1 6) (by rfl)) $$ Ho; iintro Ho
  iapply (wp_recv_peer m K c 6 (off15_at c 6 rfl)) $$ [HO C6 A6]
  · iframe HR HO C6 A6
  iintro ⟨HO, A6, S6⟩
  rw [wp_ret]; imodintro
  iapply Hk
  iframe Hi HO Ho S5 A6 S6

/-- Peer 6's block. -/
theorem part21 (c : Dev nD) (v636 v645 : BitVec 32) {Q : PUnit → sProp 𝕄} :
    iprop(records m K ∗ inp m c ∗ outs c (acc m c 0 6) (acc m c 1 6) ∗ slotPts c (peer c ((6 : Fin 7) : ℕ)) fullShare (gath m))
      ⊢ iprop(((inp m c ∗ outs c (acc m c 0 7) (acc m c 1 7) ∗ slotPts c (peer c ((6 : Fin 7) : ℕ)) fullShare (gath m)) -∗ Q ⟨⟩)
          -∗ wp frame (wpE (defs₀ (F := F)) 𝒱₀ (c : Thread nD τ) none) Set.univ
              (k0_part21 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c v636 v645) Q) := by
  rw [k0_part21_eq_skeleton]; unfold k0_part21_skel
  simp only [semSignalWord, semWaitWord, Prog.lift, Prog.bind_op, Prog.bind_ret, Prog.pure_eq_ret, wp_deviceId]
  iintro ⟨#HR, Hi, Ho, S6⟩
  iintro Hk
  iapply (wp_load_wo m c (peer c ((6 : Fin 7) : ℕ)) (off17_at c 6 rfl)) $$ Hi; iintro Hi
  iapply (wp_load_row m c (peer c ((6 : Fin 7) : ℕ)) 0 fullShare (off18_at c 6 rfl)) $$ S6; iintro S6
  iapply (wp_load_out0 c _ _) $$ Ho; iintro Ho
  iapply (wp_load_out0 c _ _) $$ Ho; iintro Ho
  iapply (wp_store_out0 c _ _ (acc m c 0 7) (by rfl)) $$ Ho; iintro Ho
  iapply (wp_load_row m c (peer c ((6 : Fin 7) : ℕ)) 1 fullShare (off19_at c 6 rfl)) $$ S6; iintro S6
  iapply (wp_load_out1 c _ _) $$ Ho; iintro Ho
  iapply (wp_load_out1 c _ _) $$ Ho; iintro Ho
  iapply (wp_store_out1 c _ _ (acc m c 1 7) (by rfl)) $$ Ho; iintro Ho
  rw [wp_ret]; imodintro
  iapply Hk
  iframe Hi Ho S6

/-- The copies to peers 0 to 3 have left. -/
theorem part22 (c : Dev nD) {Q : PUnit → sProp 𝕄} :
    iprop(records m K ∗ ow c 0 ∗ cred (tallyAt (sendCell c 0) () N) ∗ atPos ER (sendCell c 0) 0 ∅ 0 ∗ cred (tallyAt (sendCell c 1) () N) ∗ atPos ER (sendCell c 1) 0 ∅ 0 ∗ cred (tallyAt (sendCell c 2) () N) ∗ atPos ER (sendCell c 2) 0 ∅ 0 ∗ cred (tallyAt (sendCell c 3) () N) ∗ atPos ER (sendCell c 3) 0 ∅ 0)
      ⊢ iprop(((ow c 0 ∗ atPos ER (sendCell c 0) 1 ∅ 0 ∗ slotPts c c (Transfers.shareTokN fullShare ((0 : Fin 7) : ℕ)) (gath m) ∗ atPos ER (sendCell c 1) 1 ∅ 0 ∗ slotPts c c (Transfers.shareTokN fullShare ((1 : Fin 7) : ℕ)) (gath m) ∗ atPos ER (sendCell c 2) 1 ∅ 0 ∗ slotPts c c (Transfers.shareTokN fullShare ((2 : Fin 7) : ℕ)) (gath m) ∗ atPos ER (sendCell c 3) 1 ∅ 0 ∗ slotPts c c (Transfers.shareTokN fullShare ((3 : Fin 7) : ℕ)) (gath m)) -∗ Q ⟨⟩)
          -∗ wp frame (wpE (defs₀ (F := F)) 𝒱₀ (c : Thread nD τ) none) Set.univ
              (k0_part22 xM (Memref.isWhole_whole _) wqM (Memref.isWhole_whole _) kM (Memref.isWhole_whole _) vM (Memref.isWhole_whole _)
                woM (Memref.isWhole_whole _) oM (Memref.isWhole_whole _) cM (Memref.isWhole_whole _) cc0_scratch1 cc0_scratch2 c) Q) := by
  rw [k0_part22_eq_skeleton]; unfold k0_part22_skel
  simp only [semSignalWord, semWaitWord, Prog.lift, Prog.bind_op, Prog.bind_ret, Prog.pure_eq_ret, wp_deviceId]
  iintro ⟨#HR, HO, C0, A0, C1, A1, C2, A2, C3, A3⟩
  iintro Hk
  iapply (wp_sent m K c 0 rfl) $$ [HO C0 A0]
  · iframe HR HO C0 A0
  iintro ⟨HO, A0, S0⟩
  iapply (wp_sent m K c 1 rfl) $$ [HO C1 A1]
  · iframe HR HO C1 A1
  iintro ⟨HO, A1, S1⟩
  iapply (wp_sent m K c 2 rfl) $$ [HO C2 A2]
  · iframe HR HO C2 A2
  iintro ⟨HO, A2, S2⟩
  iapply (wp_sent m K c 3 rfl) $$ [HO C3 A3]
  · iframe HR HO C3 A3
  iintro ⟨HO, A3, S3⟩
  rw [wp_ret]; imodintro
  iapply Hk
  iframe HO A0 S0 A1 S1 A2 S2 A3 S3

end Cert.Gather

end
-- ==== Proof.Sound.lean ====
/-
# The body of the kernel: from what a device starts with to its result and closed cells
-/
module

public import proofs.«01_k».proof.Proof.Body
public import Idealize.ShloMosaic.Lib.Ring

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 16 → ℕ)

/-- The gather buffer, row by row: the own row and the peers'. -/
theorem rows_eq (c : Dev nD) (f : CBuf F) :
    (cPts c f : sProp 𝕄) = iprop(slotPts c c fullShare f ∗ slotPts c (peer c ((0 : Fin 7) : ℕ)) fullShare f ∗ slotPts c (peer c ((1 : Fin 7) : ℕ)) fullShare f ∗ slotPts c (peer c ((2 : Fin 7) : ℕ)) fullShare f ∗ slotPts c (peer c ((3 : Fin 7) : ℕ)) fullShare f ∗ slotPts c (peer c ((4 : Fin 7) : ℕ)) fullShare f ∗ slotPts c (peer c ((5 : Fin 7) : ℕ)) fullShare f ∗ slotPts c (peer c ((6 : Fin 7) : ℕ)) fullShare f) := by
  have h : (cPts c f : sProp 𝕄) = bigSep Finset.univ fun o : Dev nD => slotPts c o fullShare f :=
    Ring.pointsTo_blocks (Ix := Unit) (Val := Elt F) (Name := ℕ) (U := UU) (Lvl := ℕ) (ℓ := cM.view.loc (c : Thread nD τ)) (B := Dev nD)
      slotSet slotSet_disjoint slotSet_cover (q := fullShare) f
  rw [h, bigSep_univ_at _ c, bigSep_peers, bigSep_fin7]

theorem rows_split (c : Dev nD) (f : CBuf F) :
    (cPts c f : sProp 𝕄) ⊢ iprop(slotPts c c fullShare f ∗ slotPts c (peer c ((0 : Fin 7) : ℕ)) fullShare f ∗ slotPts c (peer c ((1 : Fin 7) : ℕ)) fullShare f ∗ slotPts c (peer c ((2 : Fin 7) : ℕ)) fullShare f ∗ slotPts c (peer c ((3 : Fin 7) : ℕ)) fullShare f ∗ slotPts c (peer c ((4 : Fin 7) : ℕ)) fullShare f ∗ slotPts c (peer c ((5 : Fin 7) : ℕ)) fullShare f ∗ slotPts c (peer c ((6 : Fin 7) : ℕ)) fullShare f) := Entails.of_eq (rows_eq c f)
theorem rows_join (c : Dev nD) (f : CBuf F) :
    iprop(slotPts c c fullShare f ∗ slotPts c (peer c ((0 : Fin 7) : ℕ)) fullShare f ∗ slotPts c (peer c ((1 : Fin 7) : ℕ)) fullShare f ∗ slotPts c (peer c ((2 : Fin 7) : ℕ)) fullShare f ∗ slotPts c (peer c ((3 : Fin 7) : ℕ)) fullShare f ∗ slotPts c (peer c ((4 : Fin 7) : ℕ)) fullShare f ∗ slotPts c (peer c ((5 : Fin 7) : ℕ)) fullShare f ∗ slotPts c (peer c ((6 : Fin 7) : ℕ)) fullShare f) ⊢ (cPts c f : sProp 𝕄) := Entails.of_eq (rows_eq c f).symm

/-- What the barrier brings: the own row's place on every peer. -/
theorem bar_pays (c : Dev nD) :
    (bigSep Finset.univ fun j : Fin 7 => (barPay c (peer c j) : sProp 𝕄))
      ⊢ iprop((∃ f, slotPts (peer c ((0 : Fin 7) : ℕ)) c fullShare f) ∗ (∃ f, slotPts (peer c ((1 : Fin 7) : ℕ)) c fullShare f) ∗ (∃ f, slotPts (peer c ((2 : Fin 7) : ℕ)) c fullShare f) ∗ (∃ f, slotPts (peer c ((3 : Fin 7) : ℕ)) c fullShare f) ∗ (∃ f, slotPts (peer c ((4 : Fin 7) : ℕ)) c fullShare f) ∗ (∃ f, slotPts (peer c ((5 : Fin 7) : ℕ)) c fullShare f) ∗ (∃ f, slotPts (peer c ((6 : Fin 7) : ℕ)) c fullShare f)) := by
  unfold barPay
  rw [bigSep_fin7]
  iintro ⟨⟨H0, -⟩, ⟨H1, -⟩, ⟨H2, -⟩, ⟨H3, -⟩, ⟨H4, -⟩, ⟨H5, -⟩, ⟨H6, -⟩⟩
  iframe H0 H1 H2 H3 H4 H5 H6

/-- The own row in shares: one for each copy, and a rest to read it with. -/
theorem own_split (c : Dev nD) :
    slotPts c c fullShare (gath m) ⊢ iprop(slotPts c c (Transfers.shareDrop fullShare 7) (gath m) ∗ slotPts c c (Transfers.shareTokN fullShare ((0 : Fin 7) : ℕ)) (gath m) ∗ slotPts c c (Transfers.shareTokN fullShare ((1 : Fin 7) : ℕ)) (gath m) ∗ slotPts c c (Transfers.shareTokN fullShare ((2 : Fin 7) : ℕ)) (gath m) ∗ slotPts c c (Transfers.shareTokN fullShare ((3 : Fin 7) : ℕ)) (gath m) ∗ slotPts c c (Transfers.shareTokN fullShare ((4 : Fin 7) : ℕ)) (gath m) ∗ slotPts c c (Transfers.shareTokN fullShare ((5 : Fin 7) : ℕ)) (gath m) ∗ slotPts c c (Transfers.shareTokN fullShare ((6 : Fin 7) : ℕ)) (gath m)) := by
  have h := Transfers.pointsTo_toks_split (Ix := Unit) (Val := Elt F) (Name := ℕ) (U := UU) (Lvl := ℕ) (ℓ := cM.view.loc (c : Thread nD τ)) (S := slotSet c) (f := gath m) fullShare 7
  rw [bigSep_fin7] at h
  exact h
theorem own_join (c : Dev nD) :
    iprop(slotPts c c (Transfers.shareDrop fullShare 7) (gath m) ∗ slotPts c c (Transfers.shareTokN fullShare ((0 : Fin 7) : ℕ)) (gath m) ∗ slotPts c c (Transfers.shareTokN fullShare ((1 : Fin 7) : ℕ)) (gath m) ∗ slotPts c c (Transfers.shareTokN fullShare ((2 : Fin 7) : ℕ)) (gath m) ∗ slotPts c c (Transfers.shareTokN fullShare ((3 : Fin 7) : ℕ)) (gath m) ∗ slotPts c c (Transfers.shareTokN fullShare ((4 : Fin 7) : ℕ)) (gath m) ∗ slotPts c c (Transfers.shareTokN fullShare ((5 : Fin 7) : ℕ)) (gath m) ∗ slotPts c c (Transfers.shareTokN fullShare ((6 : Fin 7) : ℕ)) (gath m)) ⊢ slotPts c c fullShare (gath m) := by
  have h := Transfers.pointsTo_toks_join (Ix := Unit) (Val := Elt F) (Name := ℕ) (U := UU) (Lvl := ℕ) (ℓ := cM.view.loc (c : Thread nD τ)) (S := slotSet c) (f := gath m) fullShare 7
  rw [bigSep_fin7] at h
  exact h

/-- A cell past its only round closes, and its counter is zero. -/
theorem close_cell (ck : Dev nD × Fin 16) :
    iprop(records m K ∗ atPos ER (kcell ck) 1 ∅ 0) ⊢ (|={Set.univ}=> semVal (kcell ck) 0 : sProp 𝕄) := by
  iintro ⟨#HR, HA⟩
  iapply (Rounds.cell_close ER (rd m) (Set.mem_univ (K ck)) (fun h => h) (R := 0 + 1) (duties_later m (kcell ck)))
  isplitr
  · iapply (records_inv m K ck); iexact HR
  iexact HA
/-- The receive cell of the own row has no round at all, and closes too. -/
theorem close_own (c : Dev nD) :
    iprop(records m K ∗ atPos ER (recvCell c c) 0 ∅ 0) ⊢ (|={Set.univ}=> semVal (recvCell c c) 0 : sProp 𝕄) := by
  iintro ⟨#HR, HA⟩
  iapply (Rounds.cell_close ER (rd m) (Set.mem_univ (K (c, recvIx c))) (fun h => h) (R := 0) (duties_own m c))
  isplitr
  · iapply (records_inv m K (c, recvIx c)); iexact HR
  iexact HA

/-- All sixteen cells of a device close. -/
theorem close_cells (c : Dev nD) :
    iprop(records m K ∗ atPos ER (barCell c) 1 ∅ 0 ∗ atPos ER (recvCell c c) 0 ∅ 0
        ∗ (atPos ER (sendCell c 0) 1 ∅ 0 ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0)
        ∗ (atPos ER (recvCell c (peer c ((0 : Fin 7) : ℕ))) 1 ∅ 0 ∗ atPos ER (recvCell c (peer c ((1 : Fin 7) : ℕ))) 1 ∅ 0 ∗ atPos ER (recvCell c (peer c ((2 : Fin 7) : ℕ))) 1 ∅ 0 ∗ atPos ER (recvCell c (peer c ((3 : Fin 7) : ℕ))) 1 ∅ 0 ∗ atPos ER (recvCell c (peer c ((4 : Fin 7) : ℕ))) 1 ∅ 0 ∗ atPos ER (recvCell c (peer c ((5 : Fin 7) : ℕ))) 1 ∅ 0 ∗ atPos ER (recvCell c (peer c ((6 : Fin 7) : ℕ))) 1 ∅ 0))
      ⊢ (|={Set.univ}=> iprop(semVal (barCell c) 0 ∗ (bigSep Finset.univ fun j : Fin 7 => semVal (sendCell c j) 0)
          ∗ bigSep Finset.univ fun o : Dev nD => semVal (recvCell c o) 0) : sProp 𝕄) := by
  rw [bigSep_univ_at (fun o : Dev nD => (semVal (recvCell c o) 0 : sProp 𝕄)) c, bigSep_peers, bigSep_fin7, bigSep_fin7]
  iintro ⟨#HR, AB, AO, ⟨Z0, Z1, Z2, Z3, Z4, Z5, Z6⟩, A0, A1, A2, A3, A4, A5, A6⟩
  imod (close_cell m K (c, 0)) $$ [AB] with AB
  · isplitr; · iexact HR
    iexact AB
  imod (close_own m K c) $$ [AO] with AO
  · isplitr; · iexact HR
    iexact AO
  imod (close_cell m K (c, sendIx 0)) $$ [Z0] with Z0
  · isplitr; · iexact HR
    iexact Z0
  imod (close_cell m K (c, recvIx (peer c ((0 : Fin 7) : ℕ)))) $$ [A0] with A0
  · isplitr; · iexact HR
    iexact A0
  imod (close_cell m K (c, sendIx 1)) $$ [Z1] with Z1
  · isplitr; · iexact HR
    iexact Z1
  imod (close_cell m K (c, recvIx (peer c ((1 : Fin 7) : ℕ)))) $$ [A1] with A1
  · isplitr; · iexact HR
    iexact A1
  imod (close_cell m K (c, sendIx 2)) $$ [Z2] with Z2
  · isplitr; · iexact HR
    iexact Z2
  imod (close_cell m K (c, recvIx (peer c ((2 : Fin 7) : ℕ)))) $$ [A2] with A2
  · isplitr; · iexact HR
    iexact A2
  imod (close_cell m K (c, sendIx 3)) $$ [Z3] with Z3
  · isplitr; · iexact HR
    iexact Z3
  imod (close_cell m K (c, recvIx (peer c ((3 : Fin 7) : ℕ)))) $$ [A3] with A3
  · isplitr; · iexact HR
    iexact A3
  imod (close_cell m K (c, sendIx 4)) $$ [Z4] with Z4
  · isplitr; · iexact HR
    iexact Z4
  imod (close_cell m K (c, recvIx (peer c ((4 : Fin 7) : ℕ)))) $$ [A4] with A4
  · isplitr; · iexact HR
    iexact A4
  imod (close_cell m K (c, sendIx 5)) $$ [Z5] with Z5
  · isplitr; · iexact HR
    iexact Z5
  imod (close_cell m K (c, recvIx (peer c ((5 : Fin 7) : ℕ)))) $$ [A5] with A5
  · isplitr; · iexact HR
    iexact A5
  imod (close_cell m K (c, sendIx 6)) $$ [Z6] with Z6
  · isplitr; · iexact HR
    iexact Z6
  imod (close_cell m K (c, recvIx (peer c ((6 : Fin 7) : ℕ)))) $$ [A6] with A6
  · isplitr; · iexact HR
    iexact A6
  imodintro
  iframe AB AO Z0 A0 Z1 A1 Z2 A2 Z3 A3 Z4 A4 Z5 A5 Z6 A6

/-- What the body starts from; -/
def bodyIn (c : Dev nD) : sProp 𝕄 :=
  iprop(ghost m K c ∗ creds c ∗ levAts L lv ∗ (∃ f, cPts c f) ∗ ow c (OB c 7) ∗ inp m c ∗ ∃ a₀ a₁, outs c a₀ a₁)
/-- what it leaves. -/
def bodyOut (c : Dev nD) : sProp 𝕄 :=
  iprop(Φ₁ c ∗ ow c 0 ∗ inp m c ∗ outs c (acc m c 0 7) (acc m c 1 7))

set_option maxHeartbeats 4000000 in
/-- The body run part by part. -/
theorem sound_body (c : Dev nD) (Kt : PUnit → sProp 𝕄) :
    iprop(bodyIn m K c ∗ (bodyOut m c -∗ Kt ⟨⟩))
      ⊢ wp frame (wpE (defs₀ (F := F)) 𝒱₀ (c : Thread nD τ) none) Set.univ
          (cc0_body xM (Memref.isWhole_whole _) wqM (Memref.isWhole_whole _) kM (Memref.isWhole_whole _) vM (Memref.isWhole_whole _)
              woM (Memref.isWhole_whole _) oM (Memref.isWhole_whole _) cM (Memref.isWhole_whole _) cc0_scratch1 cc0_scratch2) Kt := by
  rw [cc0_body_eq_skeleton]; unfold cc0_body_skel
  unfold bodyIn ghost posns payToks creds
  simp only [bigSep_fin7]
  iintro ⟨⟨⟨#HR, ⟨AB, ⟨Z0, Z1, Z2, Z3, Z4, Z5, Z6⟩, AO, A0, A1, A2, A3, A4, A5, A6⟩, ⟨T0, T1, T2, T3, T4, T5, T6⟩, ⟨U0, U1, U2, U3, U4, U5, U6⟩, D0, D1, D2, D3, D4, D5, D6⟩,
    ⟨CB, C0, C1, C2, C3, C4, C5, C6⟩, #Hlev, ⟨%f, Hc⟩, HO, Hi, ⟨%a₀, %a₁, Ho⟩⟩, Hk⟩
  ihave Hc' := (rows_split (F := F) c f) $$ Hc
  icases Hc' with ⟨R, R0, R1, R2, R3, R4, R5, R6⟩
  rw [wp_bind]
  iapply (part1 m K c f) $$ [HO T0 T1 T2 T3 T4 R0 R1 R2 R3 R4]
  · iframe HR HO T0 T1 T2 T3 T4 R0 R1 R2 R3 R4
  iintro %v2 %v24 HO
  try dsimp only
  rw [wp_bind]
  iapply (part2 m K c f _ _ _) $$ [HO T5 T6 R5 R6 CB AB]
  · iframe HR HO T5 T6 R5 R6 CB Hlev AB
  iintro ⟨HO, AB, HP⟩
  try dsimp only
  ihave HP := (bar_pays (F := F) c) $$ HP
  icases HP with ⟨⟨%f0, P0⟩, ⟨%f1, P1⟩, ⟨%f2, P2⟩, ⟨%f3, P3⟩, ⟨%f4, P4⟩, ⟨%f5, P5⟩, ⟨%f6, P6⟩⟩
  ihave Hf := (fill_start m c f) $$ R
  rw [wp_bind]
  iapply (part3 c v2) $$ []
  · iempintro
  iintro %v106
  try dsimp only
  rw [wp_bind]
  iapply (part4 m c _) $$ [Hi Hf]
  · iframe Hi Hf
  iintro ⟨Hi, Hf⟩
  try dsimp only
  rw [wp_bind]
  iapply (part5 m c _) $$ [Hi Hf]
  · iframe Hi Hf
  iintro ⟨Hi, Hf⟩
  try dsimp only
  rw [wp_bind]
  iapply (part6 m c _) $$ [Hi Hf]
  · iframe Hi Hf
  iintro ⟨Hi, Hf⟩
  try dsimp only
  rw [wp_bind]
  iapply (part7 m c _) $$ [Hi Hf]
  · iframe Hi Hf
  iintro ⟨Hi, Hf⟩
  try dsimp only
  rw [wp_bind]
  iapply (part8 m c _) $$ [Hi Hf]
  · iframe Hi Hf
  iintro ⟨Hi, Hf⟩
  try dsimp only
  rw [wp_bind]
  iapply (part9 m c _) $$ [Hi Hf]
  · iframe Hi Hf
  iintro ⟨Hi, Hf⟩
  try dsimp only
  ihave R := (fill_end m c) $$ Hf
  ihave R' := (own_split m c) $$ R
  icases R' with ⟨Hr, S0, S1, S2, S3, S4, S5, S6⟩
  rw [wp_bind]
  iapply (part10 m K c f0 f1 _) $$ [HO S0 P0 D0 U0 S1 P1 D1 U1]
  · iframe HR HO S0 P0 D0 U0 S1 P1 D1 U1
  iintro ⟨HO, E0, E1⟩
  try dsimp only
  rw [wp_bind]
  iapply (part11 m K c f2 f3 f4 _) $$ [HO S2 P2 D2 U2 S3 P3 D3 U3 S4 P4 D4 U4]
  · iframe HR HO S2 P2 D2 U2 S3 P3 D3 U3 S4 P4 D4 U4
  iintro ⟨HO, E2, E3, E4⟩
  try dsimp only
  rw [wp_bind]
  iapply (part12 m K c f5 f6 _ _) $$ [HO Hi Hr S5 P5 D5 U5 S6 P6 D6 U6]
  · iframe HR HO Hi Hr S5 P5 D5 U5 S6 P6 D6 U6
  iintro ⟨HO, Hi, Hr, E5, E6⟩
  try dsimp only
  rw [wp_bind]
  iapply (part13 m K c _ _ _) $$ [Hi Hr HO Ho C0 A0]
  · iframe HR Hi Hr HO Ho C0 A0
  iintro %w ⟨Hi, Hr, HO, Ho, A0, P0⟩
  try dsimp only
  rw [wp_bind]
  iapply (part14 m K c _ _) $$ [Hi HO Ho P0 C1 A1]
  · iframe HR Hi HO Ho P0 C1 A1
  iintro %w1 %w2 ⟨Hi, HO, Ho, P0, A1, P1⟩
  try dsimp only
  rw [wp_bind]
  iapply (part15 m K c _ _ _) $$ [Hi Ho P1]
  · iframe HR Hi Ho P1
  iintro %w3 ⟨Hi, Ho, P1⟩
  try dsimp only
  rw [wp_bind]
  iapply (part16 m K c _) $$ [Hi HO Ho C2 A2]
  · iframe HR Hi HO Ho C2 A2
  iintro ⟨Hi, HO, Ho, A2, P2⟩
  try dsimp only
  rw [wp_bind]
  iapply (part17 m K c _) $$ [Hi HO Ho C3 A3]
  · iframe HR Hi HO Ho C3 A3
  iintro ⟨Hi, HO, Ho, A3, P3⟩
  try dsimp only
  rw [wp_bind]
  iapply (part18 m K c _) $$ [Hi HO Ho C4 A4]
  · iframe HR Hi HO Ho C4 A4
  iintro %w4 ⟨Hi, HO, Ho, A4, P4⟩
  try dsimp only
  rw [wp_bind]
  iapply (part19 m K c _ _) $$ [Hi HO Ho P4 C5 A5]
  · iframe HR Hi HO Ho P4 C5 A5
  iintro %w5 ⟨Hi, HO, Ho, P4, A5, P5⟩
  try dsimp only
  rw [wp_bind]
  iapply (part20 m K c _ _) $$ [Hi HO Ho P5 C6 A6]
  · iframe HR Hi HO Ho P5 C6 A6
  iintro %w6 %w7 ⟨Hi, HO, Ho, P5, A6, P6⟩
  try dsimp only
  rw [wp_bind]
  iapply (part21 m K c _ _) $$ [Hi Ho P6]
  · iframe HR Hi Ho P6
  iintro ⟨Hi, Ho, P6⟩
  try dsimp only
  rw [wp_bind]
  iapply (part22 m K c) $$ [HO E0 Z0 E1 Z1 E2 Z2 E3 Z3]
  · iframe HR HO E0 Z0 E1 Z1 E2 Z2 E3 Z3
  iintro ⟨HO, Z0, S0, Z1, S1, Z2, S2, Z3, S3⟩
  try dsimp only
  simp only [Prog.lift, Prog.bind_op, Prog.bind_ret, Prog.pure_eq_ret]
  iapply (wp_sent m K c 4 rfl) $$ [HO E4 Z4]
  · iframe HR HO E4 Z4
  iintro ⟨HO, Z4, S4⟩
  iapply (wp_sent m K c 5 rfl) $$ [HO E5 Z5]
  · iframe HR HO E5 Z5
  iintro ⟨HO, Z5, S5⟩
  iapply (wp_sent m K c 6 rfl) $$ [HO E6 Z6]
  · iframe HR HO E6 Z6
  iintro ⟨HO, Z6, S6⟩
  ihave R := (own_join m c) $$ [Hr S0 S1 S2 S3 S4 S5 S6]
  · iframe Hr S0 S1 S2 S3 S4 S5 S6
  ihave HC := (rows_join (F := F) c (gath m)) $$ [R P0 P1 P2 P3 P4 P5 P6]
  · iframe R P0 P1 P2 P3 P4 P5 P6
  imod (close_cells m K c) $$ [AB AO Z0 A0 Z1 A1 Z2 A2 Z3 A3 Z4 A4 Z5 A5 Z6 A6] with HZ
  · iframe HR AB AO Z0 Z1 Z2 Z3 Z4 Z5 Z6 A0 A1 A2 A3 A4 A5 A6
  rw [wp_ret]; imodintro
  iapply Hk
  unfold bodyOut Φ₁
  isplitl [HC HZ]
  · isplitl [HC]; · iexists (gath m); iexact HC
    iexact HZ
  iframe HO Hi Ho

end Cert.Gather

end
-- ==== Proof.Launch.lean ====
/-
# The launch: the kernel run on all eight devices

The pipeline library's body obligation from `sound_body`; the ghost state minted and dealt to the devices; and
the run: every execution ends with each array at the contents the kernel computes and every semaphore at zero.
-/
module

public import proofs.«01_k».proof.Proof.Sound
public import proofs.«01_k».proof.Proof.Gen.KernelIdeal.Points
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the pipeline hands the body, window by window; -/
def bodyPre (c : Dev nD) : sProp 𝕄 :=
  iprop(Φ₀ m c ∗ (dats m 0 c).owesAt () t₀.castSucc
    ∗ (∃ d, stg c cc0_stg0_0 ((dats m 0 c).before (0 : Fin 6) t₀ d))
    ∗ (∃ d, stg c cc0_stg1_0 ((dats m 0 c).before (1 : Fin 6) t₀ d))
    ∗ (∃ d, stg c cc0_stg2_0 ((dats m 0 c).before (2 : Fin 6) t₀ d))
    ∗ (∃ d, stg c cc0_stg3_0 ((dats m 0 c).before (3 : Fin 6) t₀ d))
    ∗ (∃ d, stg c cc0_stg4_0 ((dats m 0 c).before (4 : Fin 6) t₀ d))
    ∗ (∃ d, stg c cc0_stg5_0 ((dats m 0 c).before (5 : Fin 6) t₀ d)))
/-- what it wants back. -/
def bodyPost (c : Dev nD) : sProp 𝕄 :=
  iprop(Φ₁ c ∗ (dats m 0 c).owesAt () t₀.succ
    ∗ stg c cc0_stg0_0 (xstg m c) ∗ stg c cc0_stg1_0 (wqstg m c) ∗ stg c cc0_stg2_0 (kstg m c) ∗ stg c cc0_stg3_0 (vstg m c) ∗ stg c cc0_stg4_0 (wostg m c) ∗ stg c cc0_stg5_0 (outAt m c))

/-- The staged inputs are the fetched ones. -/
theorem before_0 (c : Dev nD) (d) : (dats m 0 c).before (0 : Fin 6) t₀ d = xstg m c := by unfold Dat.before; rw [if_pos (fetch0_0 t₀)]; rfl
theorem before_1 (c : Dev nD) (d) : (dats m 0 c).before (1 : Fin 6) t₀ d = wqstg m c := by unfold Dat.before; rw [if_pos (fetch0_1 t₀)]; rfl
theorem before_2 (c : Dev nD) (d) : (dats m 0 c).before (2 : Fin 6) t₀ d = kstg m c := by unfold Dat.before; rw [if_pos (fetch0_2 t₀)]; rfl
theorem before_3 (c : Dev nD) (d) : (dats m 0 c).before (3 : Fin 6) t₀ d = vstg m c := by unfold Dat.before; rw [if_pos (fetch0_3 t₀)]; rfl
theorem before_4 (c : Dev nD) (d) : (dats m 0 c).before (4 : Fin 6) t₀ d = wostg m c := by unfold Dat.before; rw [if_pos (fetch0_4 t₀)]; rfl

/-- The body from what the pipeline hands it. -/
theorem body_run (c : Dev nD) :
    bodyPre m c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2) (fun _ => bodyPost m c) := by
  unfold bodyPre Φ₀ start
  iintro ⟨⟨⟨⟨%K, Hg⟩, Hcr, Hlev⟩, Hc⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_0] at h0
  rw [before_1] at h1
  rw [before_2] at h2
  rw [before_3] at h3
  rw [before_4] at h4
  subst h0 h1 h2 h3 h4
  unfold Dat.owesAt Pipeline.owesWithin
  icases Ho with ⟨%W, %hW, HO⟩
  rw [show (dats m 0 c).owed t₀.castSucc = OB c 7 from rfl]
  obtain ⟨a₀, a₁, ha⟩ := outBuf_eta (F := F) g5
  subst ha
  iapply (sound_body m K c fun _ => bodyPost m c)
  unfold bodyIn inp outs ow
  isplitr []
  · isplitl [Hg]; · iexact Hg
    isplitl [Hcr]; · iexact Hcr
    isplitl [Hlev]; · iexact Hlev
    isplitl [Hc]; · iexact Hc
    isplitl [HO]; · iexists W; iexact HO
    isplitl [H0 H1 H2 H3 H4]; · iframe H0 H1 H2 H3 H4
    iexists a₀, a₁; iexact H5
  · unfold bodyOut inp outs ow bodyPost Dat.owesAt Pipeline.owesWithin
    iintro ⟨HΦ, ⟨%W', HO⟩, ⟨H0, H1, H2, H3, H4⟩, H5⟩
    rw [show (dats m 0 c).owed t₀.succ = 0 from rfl]
    isplitl [HΦ]; · iexact HΦ
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    isplitl [H4]
    · iexists _; isplitr; · (ipureintro; rfl)
      iexact H4
    iexists _; isplitr; · (ipureintro; rfl)
    iexact H5

set_option maxRecDepth 30000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  exact body_run m c

/-! ## The ghost state: minted, dealt to the devices -/

theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 16 → SemLoc sig) := by decide
theorem kcell_injective : Function.Injective (kcell : Dev nD × Fin 16 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of the protocol. -/
def allCells : Finset (GSem nD τ sig) := Finset.univ.map ⟨kcell, kcell_injective⟩

/-- The duty tokens of a device's own cells, numbered: its barrier's seven, its receive cells' seven, its send cells' seven. -/
abbrev tokOf (x : Dev nD × Fin 3 × Fin 7) : GSem nD τ sig × ℕ × Dev nD := match x.2.1 with
  | 0 => (barCell x.1, 0, peer x.1 x.2.2)
  | 1 => (recvCell x.1 (peer x.1 x.2.2), 0, peer x.1 x.2.2)
  | 2 => (sendCell x.1 x.2.2, 0, x.1)

set_option maxRecDepth 8000 in
theorem tokKey_injective (c : Dev nD) :
    Function.Injective fun x : Fin 3 × Fin 7 => ((tokOf (c, x)).1.2, (tokOf (c, x)).2.2) := by revert c; decide

theorem tokOf_injective : Function.Injective tokOf := by
  rintro ⟨c, x⟩ ⟨c', x'⟩ h
  have hd : ∀ (d : Dev nD) (y : Fin 3 × Fin 7), (tokOf (d, y)).1.1.1 = d := by
    rintro d ⟨i, j⟩; fin_cases i <;> rfl
  have h1 : c = c' := by rw [← hd c x, ← hd c' x', h]
  subst h1
  have h2 : x = x' := tokKey_injective c (Prod.ext (congrArg (fun t => t.1.2) h) (congrArg (fun t => t.2.2) h))
  rw [h2]
def allToks : Finset (GSem nD τ sig × ℕ × Dev nD) := Finset.univ.map ⟨tokOf, tokOf_injective⟩

/-- The launch element: the pipeline's cells and tokens, and the protocol's. -/
def u₀ : UU := (initOf (Pipeline.cells cfgs cellOf_inj) (Pipeline.launchToks cfgs cellOf_inj), initOf allCells allToks)

/-- The duty tokens of device `c`'s own cells. -/
def ownToks (c : Dev nD) : sProp 𝕄 :=
  iprop((bigSep Finset.univ fun j : Fin 7 => dutyTok ER (barCell c) 0 (peer c j))
    ∗ (bigSep Finset.univ fun j : Fin 7 => dutyTok ER (recvCell c (peer c j)) 0 (peer c j))
    ∗ bigSep Finset.univ fun j : Fin 7 => dutyTok ER (sendCell c j) 0 c)

/-- What the launch element deals device `c`. -/
def dealt (c : Dev nD) : sProp 𝕄 :=
  iprop((bigSep Finset.univ fun k : Fin 16 => roundState ER (rd m) (kcell (c, k)) 0)
    ∗ ((bigSep Finset.univ fun k : Fin 16 => atPos ER (kcell (c, k)) 0 ∅ 0) ∗ bigSep Finset.univ fun k : Fin 16 => reached ER (kcell (c, k)) 0)
    ∗ ownToks c)

/-- What the global step makes of it. -/
def readied (c : Dev nD) : sProp 𝕄 := iprop(∃ K, ghost m K c)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The launch element is what it deals. -/
theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Fin 16 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_prod, bigSep_fin3]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  iframe Hst' Hat' Hr' Htok'

/-- A family over the sixteen cells: the barrier, the seven send cells, the eight receive cells. -/
theorem bigSep_cells (Φ : Fin 16 → sProp 𝕄) :
    bigSep Finset.univ Φ = iprop(Φ 0 ∗ (bigSep Finset.univ fun j : Fin 7 => Φ (sendIx j)) ∗ bigSep Finset.univ fun o : Dev nD => Φ (recvIx o)) := by
  have hs : (Finset.univ.erase 0 : Finset (Fin 16)) = (Finset.univ.map ⟨sendIx, by decide⟩) ∪ (Finset.univ.map ⟨recvIx, by decide⟩) := by decide
  rw [bigSep_univ_at Φ 0, hs, bigSep_union (by decide), bigSep_map, bigSep_map]; rfl

/-- The kernel's own semaphores: the send and the receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun o : Dev nD => semVal (recvCell c o) 0) := by
  have hs : (Finset.univ : Finset (Fin 15)) = (Finset.univ.map ⟨fun j : Fin 7 => (⟨j.val, by omega⟩ : Fin 15), by decide⟩)
      ∪ (Finset.univ.map ⟨fun o : Dev nD => (⟨o.val + 7, by have := o.isLt; have : nD = 8 := rfl; omega⟩ : Fin 15), by decide⟩) := by decide
  unfold Pipeline.ownSems0
  rw [hs, bigSep_union (by decide), bigSep_map, bigSep_map]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 16 => semVal (kcell (c, k)) 0 : sProp 𝕄) := by
  rw [ownSems0_eq, unscopedSems0_eq, bigSep_cells]
  iintro ⟨⟨HS, HV⟩, HB⟩
  iframe HB HS HV

/-- A device's semaphores at zero and its round states become invariants. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (rd m) κ (kcell (c, k))))
          ∗ ((bigSep Finset.univ fun k : Fin 16 => atPos ER (kcell (c, k)) 0 ∅ 0) ∗ bigSep Finset.univ fun k : Fin 16 => reached ER (kcell (c, k)) 0) ∗ ownToks c) := by
  have halloc : iprop((bigSep Finset.univ fun k : Fin 16 => semVal (kcell (c, k)) 0) ∗ bigSep Finset.univ fun k : Fin 16 => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold dealt
  iintro ⟨Hos, Hus, Hst, Hat, Htok⟩
  ihave Hv := (sems0_eq (F := F) c) $$ [Hos Hus]
  · iframe Hos Hus
  imod halloc $$ [Hv Hst] with Hinv
  · iframe Hv Hst
  imodintro
  iframe Hinv Hat Htok

/-- Pairs of a device and a peer number, seen from the peer. -/
def turn : Dev nD × Fin 7 ≃ Dev nD × Fin 7 :=
  Function.Involutive.toPerm (fun x => (peer x.1 x.2, x.2.rev)) (by unfold Function.Involutive; decide)
theorem turn_peer (x : Dev nD × Fin 7) : peer (turn x).1 (turn x).2 = x.1 := by revert x; decide

/-- The tokens dealt around: each device gets those of the duties it pays. -/
theorem toks_around : (bigSep Finset.univ fun c : Dev nD => (ownToks c : sProp 𝕄)) ⊢ bigSep Finset.univ fun c : Dev nD => payToks c := by
  have swap (Φ : Dev nD → Dev nD → sProp 𝕄) :
      (bigSep Finset.univ fun c : Dev nD => bigSep Finset.univ fun j : Fin 7 => Φ c (peer c j))
        = bigSep Finset.univ fun c : Dev nD => bigSep Finset.univ fun j : Fin 7 => Φ (peer c j) c := by
    rw [← bigSep_univ_prod (fun x : Dev nD × Fin 7 => Φ x.1 (peer x.1 x.2)), ← bigSep_univ_prod (fun x : Dev nD × Fin 7 => Φ (peer x.1 x.2) x.1),
      bigSep_univ_equiv turn (fun x : Dev nD × Fin 7 => Φ x.1 (peer x.1 x.2))]
    refine bigSep_congr fun x _ => ?_
    rw [turn_peer]; rfl
  unfold ownToks payToks
  rw [bigSep_sep', bigSep_sep', bigSep_sep', bigSep_sep', swap fun c d => dutyTok ER (barCell c) 0 d, swap fun c d => dutyTok ER (recvCell c d) 0 d]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions at its sixteen cells. -/
theorem posns_eq (c : Dev nD) : (bigSep Finset.univ fun k : Fin 16 => (atPos ER (kcell (c, k)) 0 ∅ 0 : sProp 𝕄)) = posns c := by
  rw [bigSep_cells, bigSep_univ_at (fun o : Dev nD => (atPos ER (kcell (c, recvIx o)) 0 ∅ 0 : sProp 𝕄)) c, bigSep_peers]; rfl

/-- The invariants' names chosen for all devices at once, the records shared out. -/
theorem regroup :
    (bigSep Finset.univ fun c : Dev nD => iprop((bigSep Finset.univ fun k => iprop(∃ κ : ℕ, cellInv ER (rd m) κ (kcell (c, k))))
          ∗ ((bigSep Finset.univ fun k : Fin 16 => atPos ER (kcell (c, k)) 0 ∅ 0) ∗ bigSep Finset.univ fun k : Fin 16 => reached ER (kcell (c, k)) 0) ∗ ownToks c) : sProp 𝕄)
      ⊢ bigSep Finset.univ (readied m) := by
  have hg (K : Dev nD × Fin 16 → ℕ) (c : Dev nD) : iprop(records m K ∗ posns c ∗ payToks c) ⊢ readied m c := by
    unfold readied ghost
    iintro H; iexists K; iexact H
  rw [bigSep_sep', bigSep_sep', bigSep_sep', ← bigSep_univ_prod (fun ck : Dev nD × Fin 16 => iprop(∃ κ : ℕ, cellInv ER (rd m) κ (kcell ck))),
    ← bigSep_univ_prod (fun ck : Dev nD × Fin 16 => (reached ER (kcell ck) 0 : sProp 𝕄)),
    bigSep_congr (s := Finset.univ) (fun (c : Dev nD) _ => posns_eq (F := F) c)]
  iintro ⟨HI, ⟨Hat, #HR⟩, Htok⟩
  ihave HK := (BI.bigSep_exists_pi Finset.univ (fun (ck : Dev nD × Fin 16) (κ : ℕ) => (cellInv ER (rd m) κ (kcell ck) : sProp 𝕄))) $$ HI
  icases HK with ⟨%K, #HI⟩
  ihave Htk := (toks_around (F := F)) $$ Htok
  iapply (bigSep_with (R := records m K) fun c _ => hg K c)
  isplitr
  · unfold records; isplitl; · iexact HI
    iexact HR
  · iapply (Entails.of_eq (bigSep_sep' Finset.univ (fun c : Dev nD => (posns c : sProp 𝕄)) payToks).symm)
    iframe Hat Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (readied m) :=
  ((bigSep_mono fun c _ => core_alloc m c).trans (bigSep_fupd _ _)).trans (BI.fupd_mono (regroup m))

/-! ## The launch credit -/

/-- How many of device `d`'s last `n` peers are `c`. -/
def cnt (d c : Dev nD) (n : ℕ) : ℕ := (Finset.range n).sum fun i => if peer d (6 - i) = c then 1 else 0

theorem bar_eq_iff {a b : Dev nD} : Iff (barCell a = barCell b) (a = b) :=
  ⟨fun h => congrArg (fun g : GSem nD τ sig => g.1.1) h, fun h => h ▸ rfl⟩
theorem recv_eq_iff {a b o p : Dev nD} : Iff (recvCell a o = recvCell b p) (And (a = b) (o = p)) :=
  ⟨fun h => ⟨congrArg (fun g : GSem nD τ sig => g.1.1) h, by
    have h2 : (SemLoc.dma (recvQ o) : SemLoc sig) = .dma (recvQ p) := congrArg Prod.snd h
    have h3 : o.val + 13 = p.val + 13 := congrArg Fin.val (SemLoc.dma.inj h2)
    exact Fin.ext (by omega)⟩, fun h => by rw [h.1, h.2]⟩
theorem recv_ne_bar (a o b : Dev nD) : recvCell a o ≠ barCell b := fun h => by
  have h2 : (SemLoc.dma (recvQ o) : SemLoc sig) = .reg barS := congrArg Prod.snd h
  exact absurd h2 (fun h => by cases h)

theorem OR_bar (d c : Dev nD) : ∀ n, OR d n (barCell c) () = 0
  | 0 => rfl
  | n + 1 => by
    unfold OR
    rw [Pi.add_apply, Finsupp.add_apply, OR_bar d c n, tallyAt_ne_cell (recv_ne_bar _ _ _).symm]; rfl
theorem OB_bar (d c : Dev nD) : ∀ n, OB d n (barCell c) () = cnt d c n
  | 0 => OR_bar d c 7
  | n + 1 => by
    unfold OB cnt
    rw [Pi.add_apply, Finsupp.add_apply, OB_bar d c n, tallyAt_apply, Finset.sum_range_succ]
    congr 1
    exact if_congr ⟨fun h => (bar_eq_iff.mp h.1).symm, fun h => ⟨by rw [h], rfl⟩⟩ rfl rfl
theorem OR_recv (d c o : Dev nD) : ∀ n, OR d n (recvCell c o) () = if o = d then cnt d c n * N else 0
  | 0 => by
    unfold cnt; rw [Finset.range_zero, Finset.sum_empty, Nat.zero_mul, ite_self]; rfl
  | n + 1 => by
    unfold OR
    rw [Pi.add_apply, Finsupp.add_apply, OR_recv d c o n, tallyAt_apply]
    by_cases ho : o = d
    · subst ho
      rw [if_pos rfl, if_pos rfl]
      unfold cnt
      rw [Finset.sum_range_succ, Nat.add_mul]
      congr 1
      by_cases hp : peer o (6 - n) = c
      · rw [if_pos hp, if_pos ⟨by rw [hp], rfl⟩, Nat.one_mul]
      · rw [if_neg hp, if_neg (fun h => hp (recv_eq_iff.mp h.1).1.symm), Nat.zero_mul]
    · rw [if_neg ho, if_neg ho, if_neg (fun h => ho (recv_eq_iff.mp h.1).2)]
theorem OB_recv (d c o : Dev nD) : ∀ n, OB d n (recvCell c o) () = OR d 7 (recvCell c o) ()
  | 0 => rfl
  | n + 1 => by
    rw [← OB_recv d c o n]
    conv_lhs => unfold OB
    rw [Pi.add_apply, Finsupp.add_apply, tallyAt_ne_cell (recv_ne_bar _ _ _)]; rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => show O₀ d (barCell c) () = cnt d c 7 from OB_bar d c 7]
  revert c; decide

theorem launch_recv (c : Dev nD) (j : Fin 7) :
    tallyOn (recvCell c (peer c j)) (launchCredit (Pipeline.owing O₀) 0 (recvCell c (peer c j)))
      = (tallyAt (recvCell c (peer c j)) () N : CellTallies nD τ sig Unit) := by
  unfold tallyAt; refine congrArg _ (Finsupp.ext fun u => ?_); cases u
  rw [Pipeline.launchCredit_owing, Finsupp.single_eq_same,
    Finset.sum_congr rfl fun d _ => show O₀ d (recvCell c (peer c j)) () = if peer c j = d then cnt d c 7 * N else 0 from
      (OB_recv d c (peer c j) 7).trans (OR_recv d c (peer c j) 7),
    Finset.sum_ite_eq, if_pos (Finset.mem_univ _), show cnt (peer c j) c 7 = 1 by revert c j; decide, Nat.one_mul]

theorem recvQ_inj (c : Dev nD) : Function.Injective fun j : Fin 7 => (SemLoc.dma (recvQ (peer c j)) : SemLoc sig) := fun i j h =>
  peer_inj c (Fin.ext (by have h3 : (peer c i).val + 13 = (peer c j).val + 13 := congrArg Fin.val (SemLoc.dma.inj h); show (peer c i).val = (peer c j).val; omega))

/-- The credits a device waits with are what the launch hands it. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : (Finset.univ.map ⟨_, recvQ_inj c⟩ : Finset (SemLoc sig)) ⊆ Finset.univ.erase (SemLoc.reg barS) := by
    intro x hx
    obtain ⟨j, -, rfl⟩ := Finset.mem_map.mp hx
    exact Finset.mem_erase.mpr ⟨fun h => (by cases h), Finset.mem_univ _⟩
  refine (bigSep_subset hsub).trans ?_
  rw [bigSep_map]
  exact bigSep_mono fun j _ => show cred (tallyOn (recvCell c (peer c j)) (launchCredit (Pipeline.owing O₀) 0 (recvCell c (peer c j)))) ⊢ _ from by
    rw [launch_recv]

/-! ## The launch theorem's side conditions -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ readied m c)
      ⊢ |={Set.univ}=> iprop(start m c ∗ emp) := by
  iintro ⟨-, Hlev, Hcr, -, HG⟩
  ihave Hc := (creds_intro (F := F) c) $$ Hcr
  imodintro
  unfold start readied
  isplitl
  · iframe HG Hc Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ cPts
  iintro ⟨Hs, -, Hr⟩
  iframe Hs Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ cPts
  iintro ⟨Hr, HzB, HzS, HzV⟩
  iframe HzB HzS HzV Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Each array at the end. -/
def finalA (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, for any float values, every weakly fair execution of the eight devices
terminates, and every final state has each array at the computed contents and every semaphore at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := readied m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Final.lean ====
/-
# What the eight devices end with

The argument arrays end as they began; the result array ends holding the output block the body leaves, which is the
whole array. From this the three statements about running to completion follow.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Pipeline.ValueKit.Geometry
public import Idealize.ShloMosaic.Lib.Quiescent

@[expose] public section

noncomputable section

namespace Cert.Gather

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## A window's one block is its whole array -/

theorem xstg_eq (c : Dev nD) : xstg m c = m ((c : Thread nD τ).loc main_arg0) :=
  Memref.read_access_unit_zero (Elt F) main_arg0 (funext fun a => by fin_cases a <;> decide) (fun a => by fin_cases a <;> decide) _
theorem wqstg_eq (c : Dev nD) : wqstg m c = m ((c : Thread nD τ).loc main_arg1) :=
  Memref.read_access_unit_zero (Elt F) main_arg1 (funext fun a => by fin_cases a <;> decide) (fun a => by fin_cases a <;> decide) _
theorem kstg_eq (c : Dev nD) : kstg m c = m ((c : Thread nD τ).loc main_arg2) :=
  Memref.read_access_unit_zero (Elt F) main_arg2 (funext fun a => by fin_cases a <;> decide) (fun a => by fin_cases a <;> decide) _
theorem vstg_eq (c : Dev nD) : vstg m c = m ((c : Thread nD τ).loc main_arg3) :=
  Memref.read_access_unit_zero (Elt F) main_arg3 (funext fun a => by fin_cases a <;> decide) (fun a => by fin_cases a <;> decide) _
theorem wostg_eq (c : Dev nD) : wostg m c = m ((c : Thread nD τ).loc main_arg4) :=
  Memref.read_access_unit_zero (Elt F) main_arg4 (funext fun a => by fin_cases a <;> decide) (fun a => by fin_cases a <;> decide) _

/-! ## The arrays at the end -/

theorem finalA_0 (c : Dev nD) : finalA m c 0 = m ((c : Thread nD τ).loc main_arg0) := (dats m 0 c).arrAt_in 0 rfl _
theorem finalA_1 (c : Dev nD) : finalA m c 1 = m ((c : Thread nD τ).loc main_arg1) := (dats m 0 c).arrAt_in 1 rfl _
theorem finalA_2 (c : Dev nD) : finalA m c 2 = m ((c : Thread nD τ).loc main_arg2) := (dats m 0 c).arrAt_in 2 rfl _
theorem finalA_3 (c : Dev nD) : finalA m c 3 = m ((c : Thread nD τ).loc main_arg3) := (dats m 0 c).arrAt_in 3 rfl _
theorem finalA_4 (c : Dev nD) : finalA m c 4 = m ((c : Thread nD τ).loc main_arg4) := (dats m 0 c).arrAt_in 4 rfl _

theorem finalA_5 (c : Dev nD) : finalA m c 5 = outAt m c := by
  have h : (win0_5.blk (0 : Fin 1)).view.read (Elt F) (finalA m c 5) = outAt m c := by
    unfold finalA
    rw [show cfg0.N = ((0 : Fin 1) : Fin cfg0.N).val + 1 from rfl, (dats m 0 c).arrAt_succ 5 (0 : Fin 1)]
    rw [show (cfg0.win 5).flush (0 : Fin 1) = true from by decide, if_pos rfl]
    exact View.read_write_univ _ _
  exact (Memref.read_access_unit_zero (Elt F) main_v1 (funext fun a => by fin_cases a <;> decide) (fun a => by fin_cases a <;> decide) _).symm.trans h

/-- From any memory with zero counters, for any float values: every execution ends, each device's result array holds
`outAt`, the arguments are unchanged and every counter is zero. -/
theorem run_value : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1 c 5).trans (finalA_5 m c), (h.1 c 0).trans (finalA_0 m c), (h.1 c 1).trans (finalA_1 m c),
    (h.1 c 2).trans (finalA_2 m c), (h.1 c 3).trans (finalA_3 m c), (h.1 c 4).trans (finalA_4 m c)⟩, h.2⟩) (run_main m ρ)

/-! ## The statements about running to completion -/

theorem frame_kernelIdeal : Cert.quiescent_KernelIdeal := by
  intro m ρ _
  exact (θ_run defs _ _).mono (fun _ h => ⟨fun c => (h.1 c).2, h.2⟩) (run_value (F := Ideal) m ρ)

/-- The two printings of the kernel have the same body table, -/
theorem defs₀_eq : Cert.Kernel.defs₀ (F := F) = defs₀ (F := F) := by
  refine congrArg Defs.onTc ?_
  funext l x
  match l, x with
  | ⟨0, _⟩, (t, s) => rfl
/-- and so the same table of regions. -/
theorem defs_eq : Cert.Kernel.defs (F := F) = defs (F := F) := congrArg (Pipeline.defs _) defs₀_eq

theorem frame_kernel : Cert.quiescent_Kernel := by
  intro m ρ _
  rw [defs_eq]
  exact (θ_run defs _ _).mono (fun _ h => ⟨fun c => (h.1 c).2, h.2⟩) (run_value (F := Bits) m ρ)

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Gather

end
-- ==== Proof.RefTerm.lean ====
/-
# The reference, in named stages

The reference is one long composed term. Here it is cut into the stages a reader would name: the block of a position,
the mask over blocks, the masked scores, their exponentials, the weights, and the output projection.
-/
module

public import proofs.«01_k».proof.Proof.Gen.ReferenceIdeal.Run

@[expose] public section

noncomputable section

namespace Cert.Gather.Ref

open Cert.ReferenceIdeal Cert.ReferenceIdeal.Gen Cert.ReferenceIdeal.Value
open Idealize.ShloMosaic
open Idealize.ShloMosaic.TcCoe

variable {F : FTy → Type} [FloatOps F]

/-- The block of 64 each position lies in: the quotient by 64, rounded down. -/
def blk : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32))) (broadcastInDim S128 ![] bcast_S_S128 (constantI S_ 32 0#32))))
    (subi (Host.divsi (iotaInDim S128 32 0) (broadcastInDim S128 ![] bcast_S_S128 (constantI S_ 32 64#32))) (broadcastInDim S128 ![] bcast_S_S128 (constantI S_ 32 1#32)))
    (Host.divsi (iotaInDim S128 32 0) (broadcastInDim S128 ![] bcast_S_S128 (constantI S_ 32 64#32)))

/-- The block of the query, of the key. -/
def qBlk : IVec S128x128 32 := broadcastInDim S128x128 ![0, 1] bcast_S128x1_S128x128_0_1 (broadcastInDim S128x1 ![0] bcast_S128_S128x1_0 blk)
def kRow : IVec S1x128 32 := broadcastInDim S1x128 ![1] bcast_S128_S1x128_1 blk
def kBlk : IVec S128x128 32 := broadcastInDim S128x128 ![0, 1] bcast_S1x128_S128x128_0_1 kRow

/-- Three, as the remainder's divisor is guarded against zero. -/
def three : IVec S_ 32 := select (cmpi .eq (constantI S_ 32 3#32) (constantI S_ 32 0#32)) (constantI S_ 32 1#32) (constantI S_ 32 3#32)
/-- The sum of the blocks, and its remainder by three before the sign is corrected. -/
def sumRem : IVec S128x128 32 := Host.remsi (addi qBlk kBlk) (broadcastInDim S128x128 ![] bcast_S_S128x128 three)

/-- Which keys a query attends to. -/
def mask : IVec S128x128 1 :=
  ori (ori (cmpi .eq qBlk kBlk) (broadcastInDim S128x128 ![0, 1] bcast_S1x128_S128x128_0_1 (cmpi .eq kRow (broadcastInDim S1x128 ![] bcast_S_S1x128 (constantI S_ 32 0#32)))))
    (cmpi .eq (select (andi (cmpi .ne (cmpi .slt sumRem (broadcastInDim S128x128 ![] bcast_S_S128x128 (constantI S_ 32 0#32)))
            (broadcastInDim S128x128 ![] bcast_S_S128x128 (cmpi .slt three (constantI S_ 32 0#32))))
          (cmpi .ne sumRem (broadcastInDim S128x128 ![] bcast_S_S128x128 (constantI S_ 32 0#32))))
        (addi sumRem (broadcastInDim S128x128 ![] bcast_S_S128x128 three)) sumRem)
      (broadcastInDim S128x128 ![] bcast_S_S128x128 (constantI S_ 32 0#32)))

/-- Whether a query attends to any key. -/
def rowKeep : IVec S1x1x128x1 1 :=
  broadcastInDim S1x1x128x1 ![2] bcast_S128_S1x1x128x1_2 (Host.reduce IntOp.ori mask (constantI S_ 1 0#1) reducesTo_S128x128_S128_d1 h_S_)

/-- The scaled scores, masked. -/
def scores (x : FVec F S2x128x512 .f32) (wq : FVec F S512x2048 .f32) (k : FVec F S2x128x32x64 .f32) : FVec F S2x32x128x128 .f32 :=
  select (broadcastInDim S2x32x128x128 ![0, 1, 2, 3] bcast_S1x1x128x128_S2x32x128x128_0_1_2_3 (broadcastInDim S1x1x128x128 ![2, 3] bcast_S128x128_S1x1x128x128_2_3 mask))
    (mulf (Host.dotGeneral dot_S2x128x32x64_S2x128x32x64_S2x32x128x128_3_3_1_1_02_02 none
        (shapeCast S2x128x32x64 (Host.dotGeneral dot_S2x128x512_S512x2048_S2x128x2048_2_0_01_1_n_n none x wq) shapeCasts_S2x128x2048_S2x128x32x64) k)
      (broadcastInDim S2x32x128x128 ![] bcast_S_S2x32x128x128 (constant S_ .f32 0x3E000000#32)))
    (broadcastInDim S2x32x128x128 ![] bcast_S_S2x32x128x128 (constant S_ .f32 0xCE6E6B28#32))

/-- The exponentials of the scores less their row's largest. -/
def exps (s : FVec F S2x32x128x128 .f32) : FVec F S2x32x128x128 .f32 :=
  Host.exp (subf s (broadcastInDim S2x32x128x128 ![0, 1, 2, 3] bcast_S2x32x128x1_S2x32x128x128_0_1_2_3
    (broadcastInDim S2x32x128x1 ![0, 1, 2] bcast_S2x32x128_S2x32x128x1_0_1_2
      (Host.reduce FloatOps.maximumf s (constant S_ .f32 0xFF800000#32) reducesTo_S2x32x128x128_S2x32x128_d3 h_S_))))

/-- The weights: each exponential over its row's sum, and zero on a row that attends to nothing. -/
def weights (e : FVec F S2x32x128x128 .f32) : FVec F S2x32x128x128 .f32 :=
  select (broadcastInDim S2x32x128x128 ![0, 1, 2, 3] bcast_S1x1x128x1_S2x32x128x128_0_1_2_3 rowKeep)
    (Host.divf e (broadcastInDim S2x32x128x128 ![0, 1, 2, 3] bcast_S2x32x128x1_S2x32x128x128_0_1_2_3
      (select (broadcastInDim S2x32x128x1 ![0, 1, 2, 3] bcast_S1x1x128x1_S2x32x128x1_0_1_2_3 rowKeep)
        (broadcastInDim S2x32x128x1 ![0, 1, 2] bcast_S2x32x128_S2x32x128x1_0_1_2
          (Host.reduceAdd e (constant S_ .f32 0x00000000#32) reducesTo_S2x32x128x128_S2x32x128_d3 h_S_))
        (broadcastInDim S2x32x128x1 ![] bcast_S_S2x32x128x1 (constant S_ .f32 0x3F800000#32)))))
    (broadcastInDim S2x32x128x128 ![] bcast_S_S2x32x128x128 (constant S_ .f32 0x00000000#32))

/-- The heads' outputs side by side, times the output projection. -/
def proj (v : FVec F S2x128x32x64 .f32) (p : FVec F S2x32x128x128 .f32) (wo : FVec F S2048x512 .f32) : FVec F S2x128x512 .f32 :=
  Host.dotGeneral dot_S2x128x2048_S2048x512_S2x128x512_2_0_01_1_n_n none
    (shapeCast S2x128x2048 (transpose S2x128x32x64 [0, 3, 1, 2]
      (Host.dotGeneral dot_S2x128x32x64_S2x32x128x128_S2x32x64x128_1_3_3_2_02_01 none v p) transposes_S2x32x64x128_S2x128x32x64_0_3_1_2)
      shapeCasts_S2x128x32x64_S2x128x2048) wo

/-- The whole reference. -/
def out (x : FVec F S2x128x512 .f32) (wq : FVec F S512x2048 .f32) (k v : FVec F S2x128x32x64 .f32) (wo : FVec F S2048x512 .f32) :
    FVec F S2x128x512 .f32 :=
  proj v (weights (exps (scores x wq k))) wo

set_option maxRecDepth 8192 in
/-- The composed term of the run is these stages. -/
theorem res_eq (m : (ℓ : Loc nD τ sig) → Buf (Elt F) ℓ) (c : Dev nD) :
    res_out0 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Gather.Ref

end
-- ==== Proof.Mask.lean ====
/-
# The mask

Positions lie in two blocks of 64. A query attends to a key of its own block, to every key of block zero, and to a key
whose block and its own sum to a multiple of three. The kernel and the reference compute the same bit, and every query
attends to a key: the one at its own position.
-/
module

public import proofs.«01_k».proof.Proof.Common
public import proofs.«01_k».proof.Proof.RefTerm
public import Idealize.ShloMosaic.Lib.Pointwise
public import Idealize.ShloMosaic.Lib.Routing.OpsOrder

@[expose] public section

noncomputable section

namespace Cert.Gather

open Idealize.ShloMosaic

/-- Whether a query of block `p` attends to a key of block `q`. -/
def keepBlk (p q : ℕ) : BitVec 1 := BitVec.ofBool (decide (p = q) || decide (q = 0) || decide ((p + q) % 3 = 0))

/-- Whether the query at `r` attends to the key at `s`. -/
def keep (r s : Fin 128) : BitVec 1 := keepBlk (r.val / 64) (s.val / 64)

theorem keep_self (r : Fin 128) : keep r r = 1#1 := by simp [keep, keepBlk]

/-! ## The reference's mask -/

theorem refBlk (i : Fin 128) : Ref.blk (ix1 i) = BitVec.ofNat 32 (i.val / 64) := by
  pointwise [Ref.blk]
  revert i
  decide +kernel

theorem refMask (r s : Fin 128) : Ref.mask (ix2 r s) = keep r s := by
  pointwise [Ref.mask, Ref.sumRem, Ref.three, Ref.qBlk, Ref.kBlk, Ref.kRow]
  rw [refBlk, refBlk]
  unfold keep
  obtain ⟨p, hp⟩ : ∃ p : Fin 2, r.val / 64 = p.val := ⟨⟨r.val / 64, by omega⟩, rfl⟩
  obtain ⟨q, hq⟩ : ∃ q : Fin 2, s.val / 64 = q.val := ⟨⟨s.val / 64, by omega⟩, rfl⟩
  rw [hp, hq]
  clear hp hq r s
  revert p q
  decide +kernel

/-! ## The kernel's -/

theorem kerBlk (r s : Fin 128) : Cert.KernelIdeal.Gen.k0_pay1 (ix2 r s) = BitVec.ofNat 32 (r.val / 64) := by
  pointwise [Cert.KernelIdeal.Gen.k0_pay1]
  clear s
  revert r
  decide +kernel

theorem kerMask (r s : Fin 128) : maskV (ix2 r s) = keep r s := by
  pointwise [maskV, Cert.KernelIdeal.Gen.k0_pay4, Cert.KernelIdeal.Gen.k0_pay2, Cert.KernelIdeal.Gen.k0_pay3]
  rw [kerBlk]
  unfold keep
  obtain ⟨p, hp⟩ : ∃ p : Fin 2, r.val / 64 = p.val := ⟨⟨r.val / 64, by omega⟩, rfl⟩
  rw [hp]
  clear hp r
  revert p s
  decide +kernel

theorem rowKeep_eq (r : Fin 128) : Ref.rowKeep (ix4 0 0 r 0) = 1#1 := by
  pointwise [Ref.rowKeep]
  rw [Routing.fold_ori]
  exact ⟨r, Finset.mem_univ r, (refMask r r).trans (keep_self r)⟩

end Cert.Gather

end
-- ==== Proof.Head.lean ====
/-
# One head of attention, over the extended reals

`attend` is the masked softmax attention of one head: what the kernel computes for a head from its query, key and value
blocks, and what the reference computes for the same head.
-/
module

public import proofs.«01_k».proof.Proof.Mask

@[expose] public section

noncomputable section

namespace Cert.Gather

open Idealize.ShloMosaic

/-- The scores of the query at `r`: an eighth of the inner product where the mask keeps the key, minus a billion elsewhere. -/
def score (q k : Fin 128 → Fin 64 → EReal) (r s : Fin 128) : EReal :=
  Scalar.select (keep r s) ((∑ l, q r l * k s l) * Ideal.ofBits .f32 0x3E000000#32) (Ideal.ofBits .f32 0xCE6E6B28#32)

/-- The exponential of a score less the row's largest. -/
def expo (t : Fin 128 → EReal) (s : Fin 128) : EReal :=
  Ideal.exp (t s - Finset.fold max (Ideal.ofBits .f32 0xFF800000#32) t Finset.univ)

/-- The weight of a key: its exponential over the row's sum. -/
def weight (t : Fin 128 → EReal) (s : Fin 128) : EReal := Ideal.div (expo t s) (∑ s', expo t s')

/-- The head's output at position `r`, lane `d`. -/
def attend (q k v : Fin 128 → Fin 64 → EReal) (r : Fin 128) (d : Fin 64) : EReal := ∑ s, weight (score q k r) s * v s d

open Cert.KernelIdeal Cert.KernelIdeal.Gen in
set_option maxRecDepth 16384 in
/-- The kernel's head. -/
theorem headOut_apply (q : FVec Ideal S128x64 .f32) (k v : Vec Ideal S1x128x1x64 .f32) (r : Fin 128) (d : Fin 64) :
    headOut q k v (ix4 (0 : Fin 1) (0 : Fin 1) r d)
      = attend (fun r l => q (ix2 r l)) (fun s l => k (ix4 0 s 0 l)) (fun s l => v (ix4 0 s 0 l)) r d := by
  pointwise [headOut, k0_pay10, k0_pay9]
  simp only [kerMask]
  rfl

/-! ## The reference's stages at an index -/

section Reference
open Cert.ReferenceIdeal Cert.ReferenceIdeal.Gen

theorem ref_scores (x : FVec Ideal S2x128x512 .f32) (wq : FVec Ideal S512x2048 .f32) (k : FVec Ideal S2x128x32x64 .f32)
    (b : Fin 2) (h : Fin 32) (r s : Fin 128) :
    Ref.scores x wq k (ix4 b h r s)
      = score (fun r l => ∑ i : Fin 512, x (ix3 b r i) * wq (ix2 i ⟨h.val * 64 + l.val, by omega⟩)) (fun s l => k (ix4 b s h l)) r s := by
  pointwise [Ref.scores]
  simp only [refMask]
  rfl

theorem ref_exps (t : FVec Ideal S2x32x128x128 .f32) (b : Fin 2) (h : Fin 32) (r s : Fin 128) :
    Ref.exps t (ix4 b h r s) = expo (fun s => t (ix4 b h r s)) s := by
  pointwise [Ref.exps]
  rfl

theorem ref_weights (e : FVec Ideal S2x32x128x128 .f32) (b : Fin 2) (h : Fin 32) (r s : Fin 128) :
    Ref.weights e (ix4 b h r s) = Ideal.div (e (ix4 b h r s)) (∑ s', e (ix4 b h r s')) := by
  pointwise [Ref.weights]
  simp only [rowKeep_eq]
  rfl

theorem ref_proj (v : FVec Ideal S2x128x32x64 .f32) (p : FVec Ideal S2x32x128x128 .f32) (wo : FVec Ideal S2048x512 .f32)
    (b : Fin 2) (r : Fin 128) (n : Fin 512) :
    Ref.proj v p wo (ix3 b r n) = ∑ i : Fin 2048, (∑ s, p (ix4 b ⟨i.val / 64, by omega⟩ r s) * v (ix4 b s ⟨i.val / 64, by omega⟩ ⟨i.val % 64, by omega⟩))
      * wo (ix2 i n) := by
  pointwise [Ref.proj]
  simp only [mul_comm (v _)]

/-- The attention output at position `r` of batch `b`, column `i` of the 32 heads laid side by side. -/
def attn (x : FVec Ideal S2x128x512 .f32) (wq : FVec Ideal S512x2048 .f32) (k v : FVec Ideal S2x128x32x64 .f32)
    (b : Fin 2) (r : Fin 128) (i : Fin 2048) : EReal :=
  attend (fun r l => ∑ j : Fin 512, x (ix3 b r j) * wq (ix2 j ⟨i.val / 64 * 64 + l.val, by omega⟩))
    (fun s l => k (ix4 b s ⟨i.val / 64, by omega⟩ l)) (fun s l => v (ix4 b s ⟨i.val / 64, by omega⟩ l)) r ⟨i.val % 64, by omega⟩

/-- The reference at an index: the attention output times the output weights. -/
theorem ref_out (x : FVec Ideal S2x128x512 .f32) (wq : FVec Ideal S512x2048 .f32) (k v : FVec Ideal S2x128x32x64 .f32)
    (wo : FVec Ideal S2048x512 .f32) (b : Fin 2) (r : Fin 128) (n : Fin 512) :
    Ref.out x wq k v wo (ix3 b r n) = ∑ i : Fin 2048, attn x wq k v b r i * wo (ix2 i n) := by
  unfold Ref.out
  rw [ref_proj]
  simp only [ref_weights, ref_exps, ref_scores]
  rfl

end Reference

end Cert.Gather

end
-- ==== Proof.Blocks.lean ====
/-
# The blocks the kernel reads, by their entries

Every load of the body reads a rectangle of one of the whole arrays. Entry by entry each is an entry of the array.
-/
module

public import proofs.«01_k».proof.Proof.Head
public import Idealize.ShloMosaic.Lib.Pipeline.ValueKit.Geometry

@[expose] public section

noncomputable section

namespace Cert.Gather

open Cert.KernelIdeal Cert.KernelIdeal.Gen
open Idealize.ShloMosaic

theorem read_x (b : Fin 2) (f : XBuf Ideal) (r : Fin 128) (j : Fin 512) :
    xM.view.readAt (Elt Ideal) (rx b).toLoadRect f (ix3 (0 : Fin 1) r j) = f (ix3 b r j) := by
  rw [View.readAt_apply]
  refine congrArg f (funext fun a => Fin.ext ?_)
  refine (ValueKit.rect_emb_unit_val _ _ (rx_inb b) _ a).trans ?_
  fin_cases a <;> simp [ix3]

theorem read_wq (o : Dev nD) (f : FVec Ideal S512x2048 .f32) (j : Fin 512) (i : Fin 256) :
    wqM.view.readAt (Elt Ideal) (rwq o).toLoadRect f (ix2 j i) = f (ix2 j ⟨256 * o.val + i.val, by have := o.isLt; change o.val < 8 at this; omega⟩) := by
  rw [View.readAt_apply]
  refine congrArg f (funext fun a => Fin.ext ?_)
  refine (ValueKit.rect_emb_unit_val _ _ (rwq_inb o) _ a).trans ?_
  fin_cases a <;> simp [ix2]

theorem read_wo (o : Dev nD) (f : FVec Ideal S2048x512 .f32) (i : Fin 256) (n : Fin 512) :
    woM.view.readAt (Elt Ideal) (rwo o).toLoadRect f (ix2 i n) = f (ix2 ⟨256 * o.val + i.val, by have := o.isLt; change o.val < 8 at this; omega⟩ n) := by
  rw [View.readAt_apply]
  refine congrArg f (funext fun a => Fin.ext ?_)
  refine (ValueKit.rect_emb_unit_val _ _ (rwo_inb o) _ a).trans ?_
  fin_cases a <;> simp [ix2]

theorem read_k (b : Fin 2) (h : Fin 4) (f : FVec Ideal S2x128x4x64 .f32) (s : Fin 128) (l : Fin 64) :
    kM.view.readAt (Elt Ideal) (rk b h).toLoadRect f (ix4 (0 : Fin 1) s (0 : Fin 1) l) = f (ix4 b s h l) := by
  rw [View.readAt_apply]
  refine congrArg f (funext fun a => Fin.ext ?_)
  refine (ValueKit.rect_emb_unit_val _ _ (rk_inb b h) _ a).trans ?_
  fin_cases a <;> simp [ix4]

theorem read_v (b : Fin 2) (h : Fin 4) (f : FVec Ideal S2x128x4x64 .f32) (s : Fin 128) (l : Fin 64) :
    vM.view.readAt (Elt Ideal) (rk b h).toLoadRect f (ix4 (0 : Fin 1) s (0 : Fin 1) l) = f (ix4 b s h l) := read_k b h f s l

theorem read_c (o : Dev nD) (b : Fin 2) (f : CBuf Ideal) (r : Fin 128) (y : Fin 256) :
    cM.view.readAt (Elt Ideal) (rc o b).toLoadRect f (ix4 (0 : Fin 1) (0 : Fin 1) r y) = f (ix4 o b r y) := by
  rw [View.readAt_apply]
  refine congrArg f (funext fun a => Fin.ext ?_)
  refine (ValueKit.rect_emb_unit_val _ _ (rc_inb o b) _ a).trans ?_
  fin_cases a <;> simp [ix4]

/-- The queries of a device's head `h`, from its columns of the query projection. -/
theorem qHead_apply (wq : FVec Ideal S512x256 .f32) (x : FVec Ideal S1x128x512 .f32) (h : Fin 4) (r : Fin 128) (l : Fin 64) :
    qHead (k0_pay6 wq x) h (ix2 r l) = ∑ j : Fin 512, x (ix3 0 r j) * wq (ix2 j ⟨h.val * 64 + l.val, by omega⟩) := by
  match h with
  | 0 => pointwise [qHead, k0_pay6, k0_pay5]
  | 1 => pointwise [qHead, k0_pay6, k0_pay5]
  | 2 => pointwise [qHead, k0_pay6, k0_pay5]
  | 3 => pointwise [qHead, k0_pay6, k0_pay5]

theorem pay28_apply (wo : FVec Ideal S256x512 .f32) (cx : FVec Ideal S1x1x128x256 .bf16) (r : Fin 128) (n : Fin 512) :
    k0_pay28 (F := Ideal) (k0_pay25 (F := Ideal) wo) cx (ix3 0 r n) = ∑ i : Fin 256, (cx (ix4 0 0 r i) : EReal) * wo (ix2 i n) := by
  pointwise [k0_pay28, k0_pay25]

theorem pay34_apply (wo : FVec Ideal S256x512 .f32) (cx : FVec Ideal S1x1x128x256 .bf16) (a : FVec Ideal S1x128x512 .f32) (r : Fin 128) (n : Fin 512) :
    k0_pay34 wo cx a (ix3 0 r n) = a (ix3 0 r n) + ∑ i : Fin 256, (cx (ix4 0 0 r i) : EReal) * wo (ix2 i n) := by
  pointwise [k0_pay34, k0_pay33]

variable (m : (ℓ : Loc nD τ sig) → Buf (Elt Ideal) ℓ)

/-- An entry of the gathered array, from the arrays of the device whose row it is in. -/
theorem ctx_apply (o : Dev nD) (x : FVec Ideal S2x128x512 .f32) (wq : FVec Ideal S512x2048 .f32) (k v : FVec Ideal S2x128x4x64 .f32)
    (hx : xstg m o = x) (hwq : wqstg m o = wq) (hk : kstg m o = k) (hv : vstg m o = v) (b : Fin 2) (r : Fin 128) (y : Fin 256) :
    ctx m o b (ix4 (0 : Fin 1) (0 : Fin 1) r y)
      = attend (fun r l => ∑ j : Fin 512, x (ix3 b r j) * wq (ix2 j ⟨256 * o.val + (y.val / 64 * 64 + l.val), by have := o.isLt; change o.val < 8 at this; omega⟩))
          (fun s l => k (ix4 b s (⟨y.val / 64, by omega⟩ : Fin 4) l)) (fun s l => v (ix4 b s (⟨y.val / 64, by omega⟩ : Fin 4) l))
          r ⟨y.val % 64, by omega⟩ := by
  refine (read_c o b (gath m) r y).trans ?_
  refine Eq.trans (b := headAt m o b ⟨y.val / 64, by omega⟩ (ix4 (0 : Fin 1) (0 : Fin 1) r (⟨y.val % 64, by omega⟩ : Fin 64))) ?_ ?_
  · unfold gath
    rw [← ix4_eq_valueIdx]
    rfl
  · subst hx hwq hk hv
    refine (headOut_apply _ _ _ _ _).trans ?_
    refine congrFun (congrFun (congr (congr (congrArg attend ?_) ?_) ?_) _) _
    · funext r l
      refine (qHead_apply _ _ _ r l).trans (Finset.sum_congr rfl fun j _ => ?_)
      exact congr (congrArg _ (read_x b (xstg m o) r j)) (read_wq o (wqstg m o) j _)
    · funext s l; exact read_k b _ (kstg m o) s l
    · funext s l; exact read_v b _ (vstg m o) s l

end Cert.Gather

end
-- ==== Proof.Sums.lean ====
/-
# Two rearrangements of a sum

A sum over 2048 columns is a sum over eight devices of their 256 columns; and a device's own term with its seven
peers' is the sum over all eight.
-/
module

public import proofs.«01_k».proof.Proof.Common
public import Idealize.ShloMosaic.Lib.Pointwise
public import Mathlib.Algebra.Group.Fin.Basic
public import Mathlib.Logic.Equiv.Fin.Basic

@[expose] public section

noncomputable section

namespace Cert.Gather

/-- Eight blocks of 256 columns are the 2048 columns. -/
theorem sum_blocks (f : Fin 2048 → EReal) : ∑ o : Fin 8, ∑ y : Fin 256, f ⟨256 * o.val + y.val, by omega⟩ = ∑ i, f i := by
  rw [← Fintype.sum_prod_type' (f := fun (o : Fin 8) (y : Fin 256) => f ⟨256 * o.val + y.val, by omega⟩)]
  refine Fintype.sum_equiv (finProdFinEquiv (m := 8) (n := 256)) _ _ fun p => congrArg f (Fin.ext ?_)
  simp [finProdFinEquiv, add_comm]

/-- A device and its seven peers are the eight devices. -/
theorem sum_peers (t : Fin 8 → EReal) (c : Fin 8) : t c + ∑ j ∈ Finset.range 7, t (peer c j) = ∑ o, t o := by
  rw [← Equiv.sum_comp (Equiv.addLeft c) t, Fin.sum_univ_succ, Finset.sum_range]
  refine congr (congrArg _ ?_) (Finset.sum_congr rfl fun j _ => ?_)
  · simp
  · refine congrArg t ?_
    revert c j
    decide

end Cert.Gather

end
-- ==== Proof.Equation.lean ====
/-
# The kernel's result is the reference's

Each device sums, over all eight devices, the heads of that device times the rows of the output projection they meet.
Together these are the 2048 columns of the reference's last product.
-/
module

public import proofs.«01_k».proof.Proof.Final
public import proofs.«01_k».proof.Proof.Blocks
public import proofs.«01_k».proof.Proof.Sums
public import Idealize.ShloMosaic.Lib.LayoutAt

@[expose] public section

noncomputable section

namespace Cert.Gather

open Cert.KernelIdeal Cert.KernelIdeal.Gen
open Idealize.ShloMosaic
open Idealize.ShloMosaic.TcCoe
open Idealize.SL.Sem

abbrev SHead : Shape := ⟨4, ![2, 128, 4, 64]⟩
abbrev SHeads : Shape := ⟨4, ![2, 128, 32, 64]⟩

/-- Device `o` holds heads `4 o` to `4 o + 3`. -/
theorem block_apply (o : Fin 8) (f : SHeads.Idx → EReal) (b : Fin 2) (s : Fin 128) (h : Fin 4) (l : Fin 64) :
    Layout.block SHead SHeads 2 8 o f (by decide) (ix4 b s h l) = f (ix4 b s (⟨4 * o.val + h.val, by omega⟩ : Fin 32) l) := by
  refine congrArg f (funext fun a => Fin.ext ?_)
  refine (Layout.Tiles.idx_val _ o _ a).trans ?_
  fin_cases a <;> simp [ix4] <;> omega

variable (m : (ℓ : Loc nD τ sig) → Buf (Elt Ideal) ℓ)
variable (x : FVec Ideal S2x128x512 .f32) (wq : FVec Ideal S512x2048 .f32) (k v : FVec Ideal SHeads .f32) (wo : FVec Ideal S2048x512 .f32)

/-- What the devices hold at the start: the heads cut into eight, all else whole on each. -/
structure Held : Prop where
  x : ∀ c : Dev nD, m ((c.tc : Thread nD τ).loc main_arg0) = x
  wq : ∀ c : Dev nD, m ((c.tc : Thread nD τ).loc main_arg1) = wq
  k : ∀ c : Dev nD, m ((c.tc : Thread nD τ).loc main_arg2) = Layout.block SHead SHeads 2 8 c k
  v : ∀ c : Dev nD, m ((c.tc : Thread nD τ).loc main_arg3) = Layout.block SHead SHeads 2 8 c v
  wo : ∀ c : Dev nD, m ((c.tc : Thread nD τ).loc main_arg4) = wo

variable {m x wq k v wo}

/-- Column `y` of device `o`'s row is column `256 o + y` of the attention output. -/
theorem ctx_attn (H : Held m x wq k v wo) (o : Fin 8) (b : Fin 2) (r : Fin 128) (y : Fin 256) :
    ctx m o b (ix4 (0 : Fin 1) (0 : Fin 1) r y) = attn x wq k v b r ⟨256 * o.val + y.val, by omega⟩ := by
  refine (ctx_apply m o x wq _ _ ((xstg_eq m o).trans (H.x o)) ((wqstg_eq m o).trans (H.wq o)) ((kstg_eq m o).trans (H.k o))
    ((vstg_eq m o).trans (H.v o)) b r y).trans ?_
  have hq : 4 * o.val + y.val / 64 = (256 * o.val + y.val) / 64 := by omega
  have hc : ∀ l : ℕ, 256 * o.val + (y.val / 64 * 64 + l) = (256 * o.val + y.val) / 64 * 64 + l := fun l => by omega
  have hr : y.val % 64 = (256 * o.val + y.val) % 64 := by omega
  simp only [block_apply, hq, hc]
  unfold attn
  refine congrArg _ (Fin.ext ?_)
  exact hr

/-- Device `o`'s part of the sum at `(b, r, n)`. -/
def part (x : FVec Ideal S2x128x512 .f32) (wq : FVec Ideal S512x2048 .f32) (k v : FVec Ideal SHeads .f32) (wo : FVec Ideal S2048x512 .f32)
    (b : Fin 2) (r : Fin 128) (n : Fin 512) (o : Fin 8) : EReal :=
  ∑ y : Fin 256, attn x wq k v b r ⟨256 * o.val + y.val, by omega⟩ * wo (ix2 ⟨256 * o.val + y.val, by omega⟩ n)

theorem part_eq (H : Held m x wq k v wo) (c o : Fin 8) (b : Fin 2) (r : Fin 128) (n : Fin 512) :
    ∑ i : Fin 256, (ctx m o b (ix4 0 0 r i) : EReal) * (woBlk m c o : FVec Ideal S256x512 .f32) (ix2 i n) = part x wq k v wo b r n o := by
  refine Finset.sum_congr rfl fun i _ => congr (congrArg _ (ctx_attn H o b r i)) ?_
  refine (read_wo o (wostg m c) i n).trans ?_
  exact congrFun ((wostg_eq m c).trans (H.wo c)) _

/-- A device's running output after `j` peers. -/
theorem acc_apply (H : Held m x wq k v wo) (c : Fin 8) (b : Fin 2) (r : Fin 128) (n : Fin 512) (j : ℕ) :
    acc m c b j (ix3 (0 : Fin 1) r n) = part x wq k v wo b r n c + ∑ i ∈ Finset.range j, part x wq k v wo b r n (peer c i) := by
  induction j with
  | zero =>
    rw [Finset.range_zero, Finset.sum_empty, add_zero]
    exact (pay28_apply _ _ r n).trans (part_eq H c c b r n)
  | succ j ih =>
    rw [Finset.sum_range_succ, ← add_assoc, ← ih]
    exact (pay34_apply _ _ _ r n).trans (congrArg _ (part_eq H c (peer c j) b r n))

theorem acc_ref (H : Held m x wq k v wo) (c : Fin 8) (b : Fin 2) (r : Fin 128) (n : Fin 512) :
    acc m c b 7 (ix3 (0 : Fin 1) r n) = Ref.out x wq k v wo (ix3 b r n) := by
  rw [acc_apply H, sum_peers, ref_out]
  exact sum_blocks fun i => attn x wq k v b r i * wo (ix2 i n)

/-- Every device ends with the reference's array. -/
theorem outAt_ref (H : Held m x wq k v wo) (c : Dev nD) : outAt m c = Ref.out x wq k v wo := by
  have key : ∀ (b : Fin 2) (r : Fin 128) (n : Fin 512), outAt m c (ix3 b r n) = Ref.out x wq k v wo (ix3 b r n) := by
    intro b r n
    have h0 := acc_ref H c 0 r n
    have h1 := acc_ref H c 1 r n
    unfold outAt outStep outBuf
    match b with
    | 0 => exact h0
    | 1 => exact h1
  refine funext fun (j : S2x128x512.Idx) => ?_
  have hj : j = ix3 (j 0) (j 1) (j 2) := funext fun a => by fin_cases a <;> rfl
  rw [hj]
  exact key (j 0) (j 1) (j 2)

/-! ## The two runs -/

theorem algebraic : Cert.algebraic_KernelIdeal_ReferenceIdeal := by
  intro m g m' g' _ hin
  have H : Held m _ _ _ _ _ := ⟨fun c => (hin c).1, fun c => (hin c).2.1, fun c => (hin c).2.2.1, fun c => (hin c).2.2.2.1, fun c => (hin c).2.2.2.2⟩
  refine ⟨Cert.ReferenceIdeal.Value.res_main_v44 m' 0, ?_, ?_⟩
  · refine (θ_run defs _ _).mono (fun _ h c => ⟨(h.1 c).1.trans ?_, (h.1 c).2⟩) (run_value (F := Ideal) m g)
    exact (outAt_ref H c).trans (Ref.res_eq m' 0).symm
  · exact (θ_run Cert.ReferenceIdeal.defs _ _).mono (fun _ h => h 0) (Cert.ReferenceIdeal.Value.run (F := Ideal) m' g')

end Cert.Gather

end
-- ==== Proof.lean ====
/-
# The certificate

The five claims about the gather kernel, from the modules that prove them: the kernel runs to completion at its own
formats and over the extended reals, the reference does too, the two printings of the kernel differ in nothing that
the claim records, and over the extended reals every device ends with the reference's array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Final
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts,
    Cert.Gather.frame_kernel, Cert.Gather.frame_kernelIdeal, Cert.Gather.frame_reference, trivial, Cert.Gather.algebraic⟩

end Cert.Proof

end
